-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "scale" .f32 0x3DB504F3#32 (((Real.sqrt 128)⁻¹ : ℝ) : EReal)
  ∧ IdealRules.named_const.Statement Cert.KernelIdeal.κ "mask" .f32 0xF149F2CA#32 ⊥

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨3, ![4, 32768, 128]⟩ ⟨3, ![4, 65536, 128]⟩ (Layout.meshBlock [2, 2, 2] ![[], [1], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨3, ![4, 32768, 128]⟩ ⟨3, ![4, 65536, 128]⟩ (Layout.meshBlock [2, 2, 2] ![[], [1], []] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v17) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S4x32x8x128 : Shape := ⟨4, ![4, 32, 8, 128]⟩
abbrev S4x32768x128 : Shape := ⟨3, ![4, 32768, 128]⟩
abbrev S_ : Shape := ⟨0, ![]⟩

class Facts : Prop where
  bcast_S_S4x32x8x128 : S_.BroadcastsInDim S4x32x8x128 (![] : Fin 0 → Fin S4x32x8x128.rank)
  bcast_S_S4x32768x128 : S_.BroadcastsInDim S4x32768x128 (![] : Fin 0 → Fin S4x32768x128.rank)

variable [Facts]

def fn {F : FTy → Type} [FloatOps F] (main_arg0 : FVec F S4x32x8x128 .f32) (main_arg1 : FVec F S4x32768x128 .f32) (main_arg2 : FVec F S4x32768x128 .f32) : IVec S4x32x8x128 1 × IVec S4x32768x128 1 :=
  let main_v0 : FVec F S4x32x8x128 .f32 := Host.absf main_arg0
  let main_cst : FVec F S_ .f32 := constant S_ .f32 0x7F800000#32
  let main_v1 : FVec F S4x32x8x128 .f32 := broadcastInDim S4x32x8x128 ![] bcast_S_S4x32x8x128 main_cst
  let main_v2 : IVec S4x32x8x128 1 := cmpf .olt main_v0 main_v1
  let main_v3 : FVec F S4x32768x128 .f32 := Host.absf main_arg1
  let main_cst_0 : FVec F S_ .f32 := constant S_ .f32 0x7F800000#32
  let main_v4 : FVec F S4x32768x128 .f32 := broadcastInDim S4x32768x128 ![] bcast_S_S4x32768x128 main_cst_0
  let main_v5 : IVec S4x32768x128 1 := cmpf .olt main_v3 main_v4
  (main_v2, main_v5)
-- ==== Pre_finite_scores_ReferenceIdeal.lean ====
abbrev S4x32x8x128 : Shape := ⟨4, ![4, 32, 8, 128]⟩
abbrev S4x65536x128 : Shape := ⟨3, ![4, 65536, 128]⟩
abbrev S_ : Shape := ⟨0, ![]⟩

class Facts : Prop where
  bcast_S_S4x32x8x128 : S_.BroadcastsInDim S4x32x8x128 (![] : Fin 0 → Fin S4x32x8x128.rank)
  bcast_S_S4x65536x128 : S_.BroadcastsInDim S4x65536x128 (![] : Fin 0 → Fin S4x65536x128.rank)

variable [Facts]

def fn {F : FTy → Type} [FloatOps F] (main_arg0 : FVec F S4x32x8x128 .f32) (main_arg1 : FVec F S4x65536x128 .f32) (main_arg2 : FVec F S4x65536x128 .f32) : IVec S4x32x8x128 1 × IVec S4x65536x128 1 :=
  let main_v0 : FVec F S4x32x8x128 .f32 := Host.absf main_arg0
  let main_cst : FVec F S_ .f32 := constant S_ .f32 0x7F800000#32
  let main_v1 : FVec F S4x32x8x128 .f32 := broadcastInDim S4x32x8x128 ![] bcast_S_S4x32x8x128 main_cst
  let main_v2 : IVec S4x32x8x128 1 := cmpf .olt main_v0 main_v1
  let main_v3 : FVec F S4x65536x128 .f32 := Host.absf main_arg1
  let main_cst_0 : FVec F S_ .f32 := constant S_ .f32 0x7F800000#32
  let main_v4 : FVec F S4x65536x128 .f32 := broadcastInDim S4x65536x128 ![] bcast_S_S4x65536x128 main_cst_0
  let main_v5 : IVec S4x65536x128 1 := cmpf .olt main_v3 main_v4
  (main_v2, main_v5)
-- ==== Kernel.lean ====
abbrev S4x32x8x128 : Shape := ⟨4, ![4, 32, 8, 128]⟩
abbrev S4x32768x128 : Shape := ⟨3, ![4, 32768, 128]⟩
abbrev S4x256x128 : Shape := ⟨3, ![4, 256, 128]⟩
abbrev S3x4096x128 : Shape := ⟨3, ![3, 4096, 128]⟩
abbrev S128x256 : Shape := ⟨2, ![128, 256]⟩
abbrev S256x128 : Shape := ⟨2, ![256, 128]⟩
abbrev S256x2 : Shape := ⟨2, ![256, 2]⟩
abbrev S3x2 : Shape := ⟨2, ![3, 2]⟩
abbrev S2 : Shape := ⟨1, ![2]⟩
abbrev S3 : Shape := ⟨1, ![3]⟩
abbrev S1x1 : Shape := ⟨2, ![1, 1]⟩
abbrev S_ : Shape := ⟨0, ![]⟩
abbrev S1x4096x128 : Shape := ⟨3, ![1, 4096, 128]⟩
abbrev S4096x128 : Shape := ⟨2, ![4096, 128]⟩
abbrev S1x32x1x128 : Shape := ⟨4, ![1, 32, 1, 128]⟩
abbrev S32x128 : Shape := ⟨2, ![32, 128]⟩
abbrev S128x32 : Shape := ⟨2, ![128, 32]⟩
abbrev S4096x8 : Shape := ⟨2, ![4096, 8]⟩
abbrev S8x256 : Shape := ⟨2, ![8, 256]⟩
abbrev S1x256 : Shape := ⟨2, ![1, 256]⟩
abbrev S4096x256 : Shape := ⟨2, ![4096, 256]⟩
abbrev S256 : Shape := ⟨1, ![256]⟩
abbrev S256x1 : Shape := ⟨2, ![256, 1]⟩
abbrev S1 : Shape := ⟨1, ![1]⟩
abbrev S1x256x128 : Shape := ⟨3, ![1, 256, 128]⟩

abbrev nBuf : Space → Nat
  | .hbm => 4
  | .vmem => 10
  | .smem => 0
  | _ => 0

abbrev bufTy : (tb : Table) → Fin (tcTables nBuf tb) → BufTy
  | .hbm, ⟨0, _⟩ => ⟨S4x32x8x128, .f32⟩
  | .hbm, ⟨1, _⟩ => ⟨S4x32768x128, .f32⟩
  | .hbm, ⟨2, _⟩ => ⟨S4x32768x128, .f32⟩
  | .hbm, ⟨3, _⟩ => ⟨S4x256x128, .f32⟩
  | .local _ .vmem, ⟨0, _⟩ => ⟨S4x32x8x128, .f32⟩
  | .local _ .vmem, ⟨1, _⟩ => ⟨S4x256x128, .f32⟩
  | .local _ .vmem, ⟨2, _⟩ => ⟨S3x4096x128, .f32⟩
  | .local _ .vmem, ⟨3, _⟩ => ⟨S3x4096x128, .f32⟩
  | .local _ .vmem, ⟨4, _⟩ => ⟨S128x256, .bf16⟩
  | .local _ .vmem, ⟨5, _⟩ => ⟨S256x128, .bf16⟩
  | .local _ .vmem, ⟨6, _⟩ => ⟨S256x128, .bf16⟩
  | .local _ .vmem, ⟨7, _⟩ => ⟨S256x2, .f32⟩
  | .local _ .vmem, ⟨8, _⟩ => ⟨S256x2, .f32⟩
  | .local _ .vmem, ⟨9, _⟩ => ⟨S4x256x128, .bf16⟩
  | _, _ => ⟨S4x32x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_off1 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c0_i32_8 : BitVec 32 := 0#32
  let c0_i32_9 : BitVec 32 := 0#32
  ![v10.toNat, 0, 0]
def k0_off2 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c4096_i32 : BitVec 32 := 4096#32
  let c0_i32_22 : BitVec 32 := 0#32
  ![v10.toNat, 4096, 0]
def k0_dev1 (d0 : Dev nD) : Nat :=
  let c0_i32_37 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_36 : BitVec 32 := 4#32
  let v41 : BitVec 32 := Scalar.muli v2 c4_i32_36
  let v42 : BitVec 32 := Scalar.addi c0_i32_37 v41
  let c1_i32_30 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v35 : BitVec 32 := Scalar.subi c1_i32_30 v5
  let c2_i32_38 : BitVec 32 := 2#32
  let v43 : BitVec 32 := Scalar.muli v35 c2_i32_38
  let v44 : BitVec 32 := Scalar.addi v42 v43
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_39 : BitVec 32 := 1#32
  let v45 : BitVec 32 := Scalar.muli v8 c1_i32_39
  let v46 : BitVec 32 := Scalar.addi v44 v45
  v46.toNat
def k0_dev2 (d0 : Dev nD) : Nat :=
  let c0_i32_42 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_41 : BitVec 32 := 4#32
  let v47 : BitVec 32 := Scalar.muli v2 c4_i32_41
  let v48 : BitVec 32 := Scalar.addi c0_i32_42 v47
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_43 : BitVec 32 := 2#32
  let v49 : BitVec 32 := Scalar.muli v5 c2_i32_43
  let v50 : BitVec 32 := Scalar.addi v48 v49
  let c1_i32_31 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v36 : BitVec 32 := Scalar.subi c1_i32_31 v8
  let c1_i32_44 : BitVec 32 := 1#32
  let v51 : BitVec 32 := Scalar.muli v36 c1_i32_44
  let v52 : BitVec 32 := Scalar.addi v50 v51
  v52.toNat
def k0_dev3 (d0 : Dev nD) : Nat :=
  let c0_i32_47 : BitVec 32 := 0#32
  let c1_i32_32 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v37 : BitVec 32 := Scalar.subi c1_i32_32 v2
  let c4_i32_46 : BitVec 32 := 4#32
  let v53 : BitVec 32 := Scalar.muli v37 c4_i32_46
  let v54 : BitVec 32 := Scalar.addi c0_i32_47 v53
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_48 : BitVec 32 := 2#32
  let v55 : BitVec 32 := Scalar.muli v5 c2_i32_48
  let v56 : BitVec 32 := Scalar.addi v54 v55
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_49 : BitVec 32 := 1#32
  let v57 : BitVec 32 := Scalar.muli v8 c1_i32_49
  let v58 : BitVec 32 := Scalar.addi v56 v57
  v58.toNat
def k0_dev4 (d0 : Dev nD) : Nat :=
  let c0_i32_52 : BitVec 32 := 0#32
  let c1_i32_33 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v38 : BitVec 32 := Scalar.subi c1_i32_33 v2
  let c4_i32_51 : BitVec 32 := 4#32
  let v59 : BitVec 32 := Scalar.muli v38 c4_i32_51
  let v60 : BitVec 32 := Scalar.addi c0_i32_52 v59
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_53 : BitVec 32 := 2#32
  let v61 : BitVec 32 := Scalar.muli v5 c2_i32_53
  let v62 : BitVec 32 := Scalar.addi v60 v61
  let c1_i32_34 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v39 : BitVec 32 := Scalar.subi c1_i32_34 v8
  let c1_i32_54 : BitVec 32 := 1#32
  let v63 : BitVec 32 := Scalar.muli v39 c1_i32_54
  let v64 : BitVec 32 := Scalar.addi v62 v63
  v64.toNat
def k0_off3 (d0 : Dev nD) : Fin 4 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let v65 : Index := Scalar.indexCast v10
  let c0 : Index := 0#32
  let c0_56 : Index := 0#32
  let c0_57 : Index := 0#32
  ![v65.toNat, 0, 0, 0]
def k0_off4 (d0 : Dev nD) : Fin 4 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let v75 : Index := Scalar.indexCast v10
  let c0_60 : Index := 0#32
  let c1 : Index := 1#32
  let c0_61 : Index := 0#32
  ![v75.toNat, 0, 1, 0]
def k0_off5 (d0 : Dev nD) : Fin 4 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let v85 : Index := Scalar.indexCast v10
  let c0_64 : Index := 0#32
  let c2 : Index := 2#32
  let c0_65 : Index := 0#32
  ![v85.toNat, 0, 2, 0]
def k0_off6 (d0 : Dev nD) : Fin 4 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let v95 : Index := Scalar.indexCast v10
  let c0_68 : Index := 0#32
  let c3 : Index := 3#32
  let c0_69 : Index := 0#32
  ![v95.toNat, 0, 3, 0]
def k0_off7 (d0 : Dev nD) : Fin 4 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let v105 : Index := Scalar.indexCast v10
  let c0_72 : Index := 0#32
  let c4 : Index := 4#32
  let c0_73 : Index := 0#32
  ![v105.toNat, 0, 4, 0]
def k0_off8 (d0 : Dev nD) : Fin 4 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let v115 : Index := Scalar.indexCast v10
  let c0_76 : Index := 0#32
  let c5 : Index := 5#32
  let c0_77 : Index := 0#32
  ![v115.toNat, 0, 5, 0]
def k0_off9 (d0 : Dev nD) : Fin 4 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let v125 : Index := Scalar.indexCast v10
  let c0_80 : Index := 0#32
  let c6 : Index := 6#32
  let c0_81 : Index := 0#32
  ![v125.toNat, 0, 6, 0]
def k0_off10 (d0 : Dev nD) : Fin 4 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let v135 : Index := Scalar.indexCast v10
  let c0_84 : Index := 0#32
  let c7 : Index := 7#32
  let c0_85 : Index := 0#32
  ![v135.toNat, 0, 7, 0]
def k0_off11 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c8192_i32 : BitVec 32 := 8192#32
  let c0_i32_125 : BitVec 32 := 0#32
  ![v10.toNat, 8192, 0]
def k0_off12 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c12288_i32 : BitVec 32 := 12288#32
  let c0_i32_165 : BitVec 32 := 0#32
  ![v10.toNat, 12288, 0]
def k0_off13 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c16384_i32 : BitVec 32 := 16384#32
  let c0_i32_205 : BitVec 32 := 0#32
  ![v10.toNat, 16384, 0]
def k0_off14 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c20480_i32 : BitVec 32 := 20480#32
  let c0_i32_245 : BitVec 32 := 0#32
  ![v10.toNat, 20480, 0]
def k0_off15 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c24576_i32 : BitVec 32 := 24576#32
  let c0_i32_285 : BitVec 32 := 0#32
  ![v10.toNat, 24576, 0]
def k0_off16 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c28672_i32 : BitVec 32 := 28672#32
  let c0_i32_325 : BitVec 32 := 0#32
  ![v10.toNat, 28672, 0]
def k0_dev5 (d0 : Dev nD) : Nat :=
  let c0_i32_409 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_408 : BitVec 32 := 4#32
  let v606 : BitVec 32 := Scalar.muli v2 c4_i32_408
  let v607 : BitVec 32 := Scalar.addi c0_i32_409 v606
  let c1_i32_30 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v35 : BitVec 32 := Scalar.subi c1_i32_30 v5
  let c2_i32_410 : BitVec 32 := 2#32
  let v608 : BitVec 32 := Scalar.muli v35 c2_i32_410
  let v609 : BitVec 32 := Scalar.addi v607 v608
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_411 : BitVec 32 := 1#32
  let v610 : BitVec 32 := Scalar.muli v8 c1_i32_411
  let v611 : BitVec 32 := Scalar.addi v609 v610
  v611.toNat
def k0_dev6 (d0 : Dev nD) : Nat :=
  let c0_i32_415 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_414 : BitVec 32 := 4#32
  let v616 : BitVec 32 := Scalar.muli v2 c4_i32_414
  let v617 : BitVec 32 := Scalar.addi c0_i32_415 v616
  let c1_i32_30 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v35 : BitVec 32 := Scalar.subi c1_i32_30 v5
  let c2_i32_416 : BitVec 32 := 2#32
  let v618 : BitVec 32 := Scalar.muli v35 c2_i32_416
  let v619 : BitVec 32 := Scalar.addi v617 v618
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_417 : BitVec 32 := 1#32
  let v620 : BitVec 32 := Scalar.muli v8 c1_i32_417
  let v621 : BitVec 32 := Scalar.addi v619 v620
  v621.toNat
def k0_off17 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let v668 : Index := Scalar.indexCast v10
  let c0_442 : Index := 0#32
  let c0_443 : Index := 0#32
  ![v668.toNat, 0, 0]
def k0_off18 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c0_i32_450 : BitVec 32 := 0#32
  let c0_i32_451 : BitVec 32 := 0#32
  ![v10.toNat, 0, 0]
def k0_dev7 (d0 : Dev nD) : Nat :=
  let c0_i32_447 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_446 : BitVec 32 := 4#32
  let v672 : BitVec 32 := Scalar.muli v2 c4_i32_446
  let v673 : BitVec 32 := Scalar.addi c0_i32_447 v672
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_448 : BitVec 32 := 2#32
  let v674 : BitVec 32 := Scalar.muli v5 c2_i32_448
  let v675 : BitVec 32 := Scalar.addi v673 v674
  let c1_i32_31 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v36 : BitVec 32 := Scalar.subi c1_i32_31 v8
  let c1_i32_449 : BitVec 32 := 1#32
  let v676 : BitVec 32 := Scalar.muli v36 c1_i32_449
  let v677 : BitVec 32 := Scalar.addi v675 v676
  v677.toNat
def k0_dev8 (d0 : Dev nD) : Nat :=
  let c0_i32_457 : BitVec 32 := 0#32
  let c1_i32_32 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v37 : BitVec 32 := Scalar.subi c1_i32_32 v2
  let c4_i32_456 : BitVec 32 := 4#32
  let v686 : BitVec 32 := Scalar.muli v37 c4_i32_456
  let v687 : BitVec 32 := Scalar.addi c0_i32_457 v686
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_458 : BitVec 32 := 2#32
  let v688 : BitVec 32 := Scalar.muli v5 c2_i32_458
  let v689 : BitVec 32 := Scalar.addi v687 v688
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_459 : BitVec 32 := 1#32
  let v690 : BitVec 32 := Scalar.muli v8 c1_i32_459
  let v691 : BitVec 32 := Scalar.addi v689 v690
  v691.toNat
def k0_dev9 (d0 : Dev nD) : Nat :=
  let c0_i32_467 : BitVec 32 := 0#32
  let c1_i32_33 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v38 : BitVec 32 := Scalar.subi c1_i32_33 v2
  let c4_i32_466 : BitVec 32 := 4#32
  let v700 : BitVec 32 := Scalar.muli v38 c4_i32_466
  let v701 : BitVec 32 := Scalar.addi c0_i32_467 v700
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_468 : BitVec 32 := 2#32
  let v702 : BitVec 32 := Scalar.muli v5 c2_i32_468
  let v703 : BitVec 32 := Scalar.addi v701 v702
  let c1_i32_34 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v39 : BitVec 32 := Scalar.subi c1_i32_34 v8
  let c1_i32_469 : BitVec 32 := 1#32
  let v704 : BitVec 32 := Scalar.muli v39 c1_i32_469
  let v705 : BitVec 32 := Scalar.addi v703 v704
  v705.toNat
abbrev stage0_0 : Fin 1 → Memref sig .tc .vmem S4x32x8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | "scale" => some (((Real.sqrt 128)⁻¹ : ℝ) : EReal)
  | _ => none
-- ==== ReferenceIdeal.lean ====
abbrev S4x32x8x128 : Shape := ⟨4, ![4, 32, 8, 128]⟩
abbrev S4x65536x128 : Shape := ⟨3, ![4, 65536, 128]⟩
abbrev S4x8192x8x128 : Shape := ⟨4, ![4, 8192, 8, 128]⟩
abbrev S_ : Shape := ⟨0, ![]⟩
abbrev S4x8x32x8192 : Shape := ⟨4, ![4, 8, 32, 8192]⟩
abbrev S4x8x32 : Shape := ⟨3, ![4, 8, 32]⟩
abbrev S4x8x32x1 : Shape := ⟨4, ![4, 8, 32, 1]⟩
abbrev S4x8x32x128 : Shape := ⟨4, ![4, 8, 32, 128]⟩
abbrev S4x256x128 : Shape := ⟨3, ![4, 256, 128]⟩

abbrev nBuf : Space → Nat
  | .hbm => 25
  | .vmem => 0
  | .smem => 0
  | _ => 0

abbrev bufTy : (tb : Table) → Fin (tcTables nBuf tb) → BufTy
  | .hbm, ⟨0, _⟩ => ⟨S4x32x8x128, .f32⟩
  | .hbm, ⟨1, _⟩ => ⟨S4x65536x128, .f32⟩
  | .hbm, ⟨2, _⟩ => ⟨S4x65536x128, .f32⟩
  | .hbm, ⟨3, _⟩ => ⟨S4x8192x8x128, .f32⟩
  | .hbm, ⟨4, _⟩ => ⟨S4x8192x8x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S4x8x32x8192, .f32⟩
  | .hbm, ⟨10, _⟩ => ⟨S4x8x32x8192, .f32⟩
  | .hbm, ⟨11, _⟩ => ⟨S4x8x32x8192, .f32⟩
  | .hbm, ⟨12, _⟩ => ⟨S_, .f32⟩
  | .hbm, ⟨13, _⟩ => ⟨S4x8x32, .f32⟩
  | .hbm, ⟨14, _⟩ => ⟨S4x8x32x1, .f32⟩
  | .hbm, ⟨15, _⟩ => ⟨S4x8x32x8192, .f32⟩
  | .hbm, ⟨16, _⟩ => ⟨S4x8x32x8192, .f32⟩
  | .hbm, ⟨17, _⟩ => ⟨S4x8x32x8192, .f32⟩
  | .hbm, ⟨18, _⟩ => ⟨S_, .f32⟩
  | .hbm, ⟨19, _⟩ => ⟨S4x8x32, .f32⟩
  | .hbm, ⟨20, _⟩ => ⟨S4x8x32x1, .f32⟩
  | .hbm, ⟨21, _⟩ => ⟨S4x8x32x8192, .f32⟩
  | .hbm, ⟨22, _⟩ => ⟨S4x8x32x8192, .f32⟩
  | .hbm, ⟨23, _⟩ => ⟨S4x8x32x128, .f32⟩
  | .hbm, ⟨24, _⟩ => ⟨S4x256x128, .f32⟩
  | _, _ => ⟨S4x32x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Proof.Values.lean ====
/-
  What the kernel's buffers hold, as functions of the launch memory `m`: the chunks of keys and values device `c`
  streams, its scaled and transposed queries, the running softmax state after each chunk, the partial result it sends
  to its partner along `y`, the merged row, and the gathered array. Stated over any float values, so that the run is
  written once.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.ValueIdxCore

@[expose] public section

noncomputable section

namespace Cert.Decode

open Cert.KernelIdeal Cert.KernelIdeal.Gen
open Idealize.ShloMosaic Idealize.ShloMosaic.TcCoe
open Idealize.ShloMosaic.ValueIdx (ix2 ix3)

variable {F : FTy → Type} [FloatOps F] [Named F]
variable (m : (ℓ : Loc nD τ sig) → Buf (Elt F) ℓ)

/-! ## The mesh -/

set_option backward.proofsInPublic true in
/-- The partners of device `c = 4x + 2y + z`: `0` along `y`, `1` along `z`, `2` along `x`, `3` along `x` and `z`. -/
def pt : Fin 4 → Dev nD → Dev nD
  | 0, c => ⟨4 * (c.val / 4) + 2 * (1 - c.val / 2 % 2) + c.val % 2, by have h : c.val < 8 := c.isLt; show _ < 8; omega⟩
  | 1, c => ⟨4 * (c.val / 4) + 2 * (c.val / 2 % 2) + (1 - c.val % 2), by have h : c.val < 8 := c.isLt; show _ < 8; omega⟩
  | 2, c => ⟨4 * (1 - c.val / 4) + 2 * (c.val / 2 % 2) + c.val % 2, by have h : c.val < 8 := c.isLt; show _ < 8; omega⟩
  | 3, c => ⟨4 * (1 - c.val / 4) + 2 * (c.val / 2 % 2) + (1 - c.val % 2), by have h : c.val < 8 := c.isLt; show _ < 8; omega⟩

theorem pt_pt (i : Fin 4) (c : Dev nD) : pt i (pt i c) = c := by revert i c; decide

/-- The partners as a permutation of the devices. -/
def ptE (i : Fin 4) : Dev nD ≃ Dev nD := ⟨pt i, pt i, pt_pt i, pt_pt i⟩

/-- The batch row device `c` computes. -/
def row (c : Dev nD) : ℕ := 2 * (c.val / 4) + c.val % 2

theorem row_lt (c : Dev nD) : row c < 4 := by have h : c.val < 8 := c.isLt; unfold row; omega

set_option backward.proofsInPublic true in
/-- The device of `c`'s `y` coordinate that computes row `r`. -/
def devAt (c : Dev nD) (r : Fin 4) : Dev nD :=
  ⟨4 * (r.val / 2) + 2 * (c.val / 2 % 2) + r.val % 2, by have h := r.isLt; show _ < 8; omega⟩

theorem devAt_pt (i : Fin 4) (hi : i ≠ 0) (c : Dev nD) (r : Fin 4) : devAt (pt i c) r = devAt c r := by
  revert i c r; decide
theorem devAt_self (c : Dev nD) : devAt c ⟨row c, row_lt c⟩ = c := by revert c; decide

/-! ## What is streamed -/

/-- Chunk `j` of an array of keys or values: rows `4096 j …` of batch row `r`. -/
theorem chunk_inb (c : Dev nD) (j : Fin 8) : ∀ a, (![row c, 4096 * j.val, 0] : Fin 3 → ℕ) a + S1x4096x128.size a ≤ S4x32768x128.size a := by
  revert c j; decide +kernel

abbrev chunkR (c : Dev nD) (j : Fin 8) : Rect S4x32768x128 := Rect.unit (s := S4x32768x128) ![row c, 4096 * j.val, 0] S1x4096x128.size (chunk_inb c j)

/-- Chunk `j` of device `c`'s keys. -/
def kBlk (c : Dev nD) (j : Fin 8) : Vec F S1x4096x128 .f32 :=
  (Memref.whole main_arg1).view.readAt (Elt F) (chunkR c j).toLoadRect (m ((c : Thread nD τ).loc main_arg1))
/-- Chunk `j` of device `c`'s values. -/
def vBlk (c : Dev nD) (j : Fin 8) : Vec F S1x4096x128 .f32 :=
  (Memref.whole main_arg2).view.readAt (Elt F) (chunkR c j).toLoadRect (m ((c : Thread nD τ).loc main_arg2))

theorem head_inb (c : Dev nD) (h : Fin 8) : ∀ a, (![row c, 0, h.val, 0] : Fin 4 → ℕ) a + S1x32x1x128.size a ≤ S4x32x8x128.size a := by
  revert c h; decide +kernel

abbrev headR (c : Dev nD) (h : Fin 8) : Rect S4x32x8x128 := Rect.unit (s := S4x32x8x128) ![row c, 0, h.val, 0] S1x32x1x128.size (head_inb c h)

/-- The queries as staged. -/
def qStg (c : Dev nD) : (cc0_stg0_0 : Ref sig .tc).ty.Contents (Elt F) :=
  (win0_0.blk (0 : Fin 1)).view.read (Elt F) (m ((c : Thread nD τ).loc main_arg0))

/-- Head `h` of device `c`'s row of the queries. -/
def qHead (c : Dev nD) (h : Fin 8) : Vec F S1x32x1x128 .f32 :=
  (Memref.whole cc0_stg0_0).view.readAt (Elt F) (headR c h).toLoadRect (qStg m c)

set_option backward.proofsInPublic true in
/-- The scaled queries, transposed, the eight heads side by side. -/
def qcat (c : Dev nD) : Vec F S128x256 .bf16 := fun i =>
  k0_pay2 (qHead m c ⟨(i 1).val / 32, by have h : (i 1).val < 256 := (i 1).isLt; omega⟩)
    (ix2 (n0 := 128) (n1 := 32) (i 0) ⟨(i 1).val % 32, Nat.mod_lt _ (by decide)⟩)

/-! ## The running softmax -/

/-- The head indicator and the mask, as the kernel builds them. -/
def indK : FVec F S4096x8 .bf16 := k0_pay12 k0_pay11 (Scalar.ofBits .f32 0x3F800000#32) (Scalar.ofBits .f32 0x00000000#32)
def biasK : FVec F S8x256 .bf16 := k0_pay13

/-- The running maximum, denominator and numerator. -/
abbrev St (F : FTy → Type) [FloatOps F] : Type := FVec F S1x256 .f32 × FVec F S1x256 .f32 × FVec F S256x128 .f32

/-- One chunk's update. -/
def stepSt (q : Vec F S128x256 .bf16) (k v : Vec F S1x4096x128 .f32) (s : St F) : St F :=
  (k0_pay31 indK biasK s.1 k q, k0_pay34 indK biasK s.1 s.2.1 k q, k0_pay35 indK biasK s.1 s.2.2 k q v)

set_option backward.proofsInPublic true in
/-- The state after `n` chunks. -/
def stAt (c : Dev nD) : (n : ℕ) → n ≤ 8 → St F
  | 0, _ => (k0_pay14, k0_pay15, k0_pay16)
  | n + 1, h => stepSt (qcat m c) (kBlk m c ⟨n, h⟩) (vBlk m c ⟨n, h⟩) (stAt c n (by omega))

/-- The state after all eight chunks. -/
def fin8 (c : Dev nD) : St F := stAt m c 8 le_rfl

/-! ## What is exchanged and the merged row -/

/-- The partial numerator device `c` sends along `y`. -/
def oSend (c : Dev nD) : Vec F S256x128 .bf16 := truncf .bf16 (fin8 m c).2.2 bitsLt_bf16_f32

/-- The running maximum and denominator as columns. -/
def mCol (c : Dev nD) : FVec F S256x1 .f32 := transpose S256x1 [1, 0] (fin8 m c).1 transposes_S1x256_p1_0_S256x1
def lCol (c : Dev nD) : FVec F S256x1 .f32 := transpose S256x1 [1, 0] (fin8 m c).2.1 transposes_S1x256_p1_0_S256x1

/-- The partial maximum (column 0) and denominator (column 1) device `c` sends along `y`. -/
def mlSend (c : Dev nD) : Vec F S256x2 .f32 := fun i => if (i 1).val = 0 then mCol m c (ix2 (n0 := 256) (n1 := 1) (i 0) 0) else lCol m c (ix2 (n0 := 256) (n1 := 1) (i 0) 0)

/-- Device `c`'s merged row. -/
def merged (c : Dev nD) : FVec F S256x128 .bf16 :=
  k0_pay72 (fin8 m c).1 (fin8 m c).2.1 (fin8 m c).2.2 (mCol m (pt 0 c)) (lCol m (pt 0 c)) (oSend m (pt 0 c))

/-- The gathered rows, as device `c` holds them: row `r` from the device of `c`'s `y` coordinate that computes it. -/
def obFinal (c : Dev nD) : Vec F S4x256x128 .bf16 := fun i => merged m (devAt c (i 0)) (ix2 (n0 := 256) (n1 := 128) (i 1) (i 2))

theorem obFinal_pt (i : Fin 4) (hi : i ≠ 0) (c : Dev nD) : obFinal m (pt i c) = obFinal m c := by
  funext j; exact congrArg (fun d => merged m d (ix2 (n0 := 256) (n1 := 128) (j 1) (j 2))) (devAt_pt i hi c (j 0))

/-- The kernel's result on device `c`. -/
def outAt (c : Dev nD) : (cc0_stg1_0 : Ref sig .tc).ty.Contents (Elt F) := k0_pay1 (obFinal m c)

end Cert.Decode

end
-- ==== Proof.Protocol.lean ====
/-
  The kernel's talk between devices: its semaphore cells, the schedule of who pays which cell with what, and what each
  device owes at launch. Eleven cells per device: the barrier (four units, one from each partner, each handing over the
  buffers that partner's copies will be written into), and a departure and an arrival cell for each of the five remote
  copies.
-/
module

public import proofs.«01_k».proof.Proof.Values

@[expose] public section

noncomputable section

namespace Cert.Decode

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## The ghost state: the launch's own rounds, the protocol's, and counters for the local copies -/

abbrev UB : Type := URounds (GSem nD τ sig) (Fin 4)
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The generated device numbers -/

theorem dev1_eq (c : Dev nD) : (⟨k0_dev1 c, k0_dev1_lt c⟩ : Dev nD) = pt 0 c := by revert c; decide +kernel
theorem dev2_eq (c : Dev nD) : (⟨k0_dev2 c, k0_dev2_lt c⟩ : Dev nD) = pt 1 c := by revert c; decide +kernel
theorem dev3_eq (c : Dev nD) : (⟨k0_dev3 c, k0_dev3_lt c⟩ : Dev nD) = pt 2 c := by revert c; decide +kernel
theorem dev4_eq (c : Dev nD) : (⟨k0_dev4 c, k0_dev4_lt c⟩ : Dev nD) = pt 3 c := by revert c; decide +kernel
theorem dev5_eq (c : Dev nD) : (⟨k0_dev5 c, k0_dev5_lt c⟩ : Dev nD) = pt 0 c := by revert c; decide +kernel
theorem dev6_eq (c : Dev nD) : (⟨k0_dev6 c, k0_dev6_lt c⟩ : Dev nD) = pt 0 c := by revert c; decide +kernel
theorem dev7_eq (c : Dev nD) : (⟨k0_dev7 c, k0_dev7_lt c⟩ : Dev nD) = pt 1 c := by revert c; decide +kernel
theorem dev8_eq (c : Dev nD) : (⟨k0_dev8 c, k0_dev8_lt c⟩ : Dev nD) = pt 2 c := by revert c; decide +kernel
theorem dev9_eq (c : Dev nD) : (⟨k0_dev9 c, k0_dev9_lt c⟩ : Dev nD) = pt 3 c := by revert c; decide +kernel

/-! ## The memrefs and cells -/

abbrev osM : Memref sig .tc .vmem S256x128 .bf16 := Memref.whole cc0_scratch3
abbrev orM : Memref sig .tc .vmem S256x128 .bf16 := Memref.whole cc0_scratch4
abbrev msM : Memref sig .tc .vmem S256x2 .f32 := Memref.whole cc0_scratch5
abbrev mrM : Memref sig .tc .vmem S256x2 .f32 := Memref.whole cc0_scratch6
abbrev obM : Memref sig .tc .vmem S4x256x128 .bf16 := Memref.whole cc0_scratch7

/-- The block of the gathered array that device `d` computes. -/
abbrev obS (d : Dev nD) : Memref sig .tc .vmem S256x128 .bf16 :=
  (obM.slice (Rect.unit (s := S4x256x128) (k0_off18 d) S1x256x128.size (k0_off18_inb d)) (fun _ => rfl)).squeeze S256x128 squeezes_S1x256x128_S256x128

/-- The runtime's barrier semaphore of collective id 0. -/
abbrev barS : Sem sig := (SemArray.scalar (sig.barrier 0 rfl) : Sems sig S_).sem

/-- The cells of the protocol: 0 the barrier; 1, 2 the departures and 3, 4 the arrivals of the two copies along `y`;
    5–7 the departures and 8–10 the arrivals of the three copies of the finished row. -/
abbrev csem : Fin 11 → SemLoc sig
  | 0 => .reg barS
  | 1 => .dma (8 : Fin 18) | 2 => .dma (9 : Fin 18)
  | 3 => .dma (10 : Fin 18) | 4 => .dma (11 : Fin 18)
  | 5 => .dma (12 : Fin 18) | 6 => .dma (13 : Fin 18) | 7 => .dma (14 : Fin 18)
  | 8 => .dma (15 : Fin 18) | 9 => .dma (16 : Fin 18) | 10 => .dma (17 : Fin 18)

abbrev kcell (c : Dev nD) (k : Fin 11) : GSem nD τ sig := ((c : Thread nD τ), csem k)

/-- Which cell of the protocol a semaphore is. -/
def kind : SemLoc sig → Option (Fin 11)
  | .reg s => if s = barS then some 0 else none
  | .dma n => if h : 8 ≤ n.val then some ⟨n.val - 7, by have h' : n.val < 18 := n.isLt; omega⟩ else none

theorem kind_csem (k : Fin 11) : kind (csem k) = some k := by revert k; decide

/-- The credits of the three kinds of copies. -/
abbrev No : ℕ := orM.view.dmaCredit
abbrev Nm : ℕ := mrM.view.dmaCredit
abbrev Ng : ℕ := (obS (0 : Fin 8)).view.dmaCredit

theorem No_pos : 0 < No := View.dmaCredit_pos _ (by decide)
theorem Nm_pos : 0 < Nm := View.dmaCredit_pos _ (by decide)
theorem Ng_pos : 0 < Ng := View.dmaCredit_pos _ (by decide)

/-- The shares the finished row is read at by its three copies. -/
def gsh : Fin 3 → PosShare TreeShare
  | 0 => fullShare.left
  | 1 => fullShare.right.left
  | 2 => fullShare.right.right

/-! ## The payloads -/

/-- Some contents of a buffer, or of a block of it. -/
def someO (c : Dev nD) : sProp 𝕄 := iprop(∃ f, orM.view.loc (c : Thread nD τ) ↦[orM.view.set]{fullShare} f)
def someM (c : Dev nD) : sProp 𝕄 := iprop(∃ f, mrM.view.loc (c : Thread nD τ) ↦[mrM.view.set]{fullShare} f)
def someB (c d : Dev nD) : sProp 𝕄 := iprop(∃ f, (obS d).view.loc (c : Thread nD τ) ↦[(obS d).view.set]{fullShare} f)

/-- What the signal of `c`'s partner `i` hands `c`: the buffers on that partner that `c`'s copies go to. -/
def barPay (c : Dev nD) (i : Fin 4) : sProp 𝕄 :=
  if i = 0 then iprop(someO (pt 0 c) ∗ someM (pt 0 c)) else someB (pt i c) c

/-- A block of the gathered array on `c`, the one device `d` computes, filled. -/
def rowPts (c d : Dev nD) (q : PosShare TreeShare) : sProp 𝕄 :=
  (obS d).view.loc (c : Thread nD τ) ↦[(obS d).view.set]{q} (obFinal m c : Buf (Elt F) ((obS d).view.loc (c : Thread nD τ)))

def oPts (c : Dev nD) : sProp 𝕄 := osM.view.loc (c : Thread nD τ) ↦[osM.view.set]{fullShare} (oSend m c : Buf (Elt F) (osM.view.loc (c : Thread nD τ)))
def oIn (c : Dev nD) : sProp 𝕄 := orM.view.loc (c : Thread nD τ) ↦[orM.view.set]{fullShare} (oSend m (pt 0 c) : Buf (Elt F) (orM.view.loc (c : Thread nD τ)))
def mPts (c : Dev nD) : sProp 𝕄 := msM.view.loc (c : Thread nD τ) ↦[msM.view.set]{fullShare} (mlSend m c : Buf (Elt F) (msM.view.loc (c : Thread nD τ)))
def mIn (c : Dev nD) : sProp 𝕄 := mrM.view.loc (c : Thread nD τ) ↦[mrM.view.set]{fullShare} (mlSend m (pt 0 c) : Buf (Elt F) (mrM.view.loc (c : Thread nD τ)))

/-- What cell `k` of device `c` pays out under duty `d`. -/
def pay (c : Dev nD) (k : Fin 11) (d : Fin 4) : sProp 𝕄 :=
  match k with
  | 0 => barPay c d
  | 1 => oPts m c | 2 => mPts m c
  | 3 => oIn m c | 4 => mIn m c
  | 5 => rowPts m c c (gsh 0) | 6 => rowPts m c c (gsh 1) | 7 => rowPts m c c (gsh 2)
  | 8 => rowPts m c (pt 1 c) fullShare | 9 => rowPts m c (pt 2 c) fullShare | 10 => rowPts m c (pt 3 c) fullShare

/-- The units of a duty of cell `k`. -/
def amt : Fin 11 → ℕ
  | 0 => 1
  | 1 => No | 2 => Nm | 3 => No | 4 => Nm
  | 5 => Ng | 6 => Ng | 7 => Ng | 8 => Ng | 9 => Ng | 10 => Ng

theorem amt_pos (k : Fin 11) : 0 < amt k := by
  unfold amt; split <;> first | exact Nat.one_pos | exact No_pos | exact Nm_pos | exact Ng_pos

def dutiesOf (k : Fin 11) : Finset (Fin 4) := if k = 0 then Finset.univ else {0}

instance someO_storable (c : Dev nD) : BI.Storable (upEmb : UEmb _ 𝕄) (someO (F := F) c) := by unfold someO; infer_instance
instance someM_storable (c : Dev nD) : BI.Storable (upEmb : UEmb _ 𝕄) (someM (F := F) c) := by unfold someM; infer_instance
instance someB_storable (c d : Dev nD) : BI.Storable (upEmb : UEmb _ 𝕄) (someB (F := F) c d) := by unfold someB; infer_instance
instance barPay_storable (c : Dev nD) (i : Fin 4) : BI.Storable (upEmb : UEmb _ 𝕄) (barPay (F := F) c i) := by
  unfold barPay; split <;> infer_instance
instance rowPts_storable (c d : Dev nD) (q) : BI.Storable (upEmb : UEmb _ 𝕄) (rowPts m c d q) := by unfold rowPts; infer_instance
instance oPts_storable (c : Dev nD) : BI.Storable (upEmb : UEmb _ 𝕄) (oPts m c) := by unfold oPts; infer_instance
instance oIn_storable (c : Dev nD) : BI.Storable (upEmb : UEmb _ 𝕄) (oIn m c) := by unfold oIn; infer_instance
instance mPts_storable (c : Dev nD) : BI.Storable (upEmb : UEmb _ 𝕄) (mPts m c) := by unfold mPts; infer_instance
instance mIn_storable (c : Dev nD) : BI.Storable (upEmb : UEmb _ 𝕄) (mIn m c) := by unfold mIn; infer_instance

instance pay_storable (c : Dev nD) (k : Fin 11) (d : Fin 4) : BI.Storable (upEmb : UEmb _ 𝕄) (pay m c k d) := by
  unfold pay; split <;> infer_instance

/-- One round, round 0. -/
def sch : Rounds.Schedule (GSem nD τ sig) (Fin 4) 𝕄 where
  duties g r := if r = 0 ∧ g.1.2 = .tc then (match kind g.2 with | some k => dutiesOf k | none => ∅) else ∅
  unitless _ := False
  amount g _ _ := match kind g.2 with | some k => amt k | none => 1
  payload g _ d := match kind g.2 with | some k => pay m g.1.1 k d | none => iprop(emp)
  amount_pos g _ _ _ := by
    split
    · exact amt_pos _
    · exact Nat.one_pos

instance sch_payload_storable (g : GSem nD τ sig) (r : ℕ) (d : Fin 4) : BI.Storable (upEmb : UEmb _ 𝕄) ((sch (F := F) m).payload g r d) := by
  show BI.Storable upEmb (match kind g.2 with | some k => pay m g.1.1 k d | none => iprop(emp))
  split <;> infer_instance

section Sched
variable (c : Dev nD) (k : Fin 11)

theorem duties_eq : (sch (F := F) m).duties (kcell c k) 0 = dutiesOf k := by
  dsimp only [sch]; rw [kind_csem, if_pos ⟨rfl, rfl⟩]
theorem duties_later (g : GSem nD τ sig) : ∀ r, 1 ≤ r → (sch (F := F) m).duties g r = ∅ :=
  fun r hr => by dsimp only [sch]; rw [if_neg fun h => by omega]
theorem amount_eq (d : Fin 4) : (sch (F := F) m).amount (kcell c k) 0 d = amt k := by dsimp only [sch]; rw [kind_csem]
theorem payload_eq (d : Fin 4) : (sch (F := F) m).payload (kcell c k) 0 d = pay m c k d := by dsimp only [sch]; rw [kind_csem]

theorem mem_bar (d : Fin 4) : d ∈ (sch (F := F) m).duties (kcell c 0) 0 := by rw [duties_eq]; exact Finset.mem_univ _
theorem mem_xfer (hk : k ≠ 0) : (0 : Fin 4) ∈ (sch (F := F) m).duties (kcell c k) 0 := by
  rw [duties_eq, dutiesOf, if_neg hk]; exact Finset.mem_singleton_self _

theorem expect_bar : (sch (F := F) m).expect (kcell c 0) 0 = 4 := by
  unfold Schedule.expect Schedule.amountOf
  rw [duties_eq, Finset.sum_congr rfl fun d _ => amount_eq m c 0 d, Finset.sum_const]; rfl
theorem expect_xfer (hk : k ≠ 0) : (sch (F := F) m).expect (kcell c k) 0 = amt k := by
  unfold Schedule.expect Schedule.amountOf; rw [duties_eq, dutiesOf, if_neg hk, Finset.sum_singleton, amount_eq]

/-- What the barrier pays out: the four partners' buffers. -/
theorem rest_bar : bigSep ((sch (F := F) m).duties (kcell c 0) 0 \ ∅) (fun d => (sch (F := F) m).payload (kcell c 0) 0 d)
    = iprop(barPay (F := F) c 0 ∗ barPay (F := F) c 1 ∗ barPay (F := F) c 2 ∗ barPay (F := F) c 3) := by
  rw [Finset.sdiff_empty, duties_eq, dutiesOf, if_pos rfl, bigSep_univ_eq_bigSepL [0, 1, 2, 3] (by decide) (by decide),
    bigSepL_cons_cons, bigSepL_cons_cons, bigSepL_cons_cons, bigSepL_singleton, payload_eq, payload_eq, payload_eq, payload_eq]
  rfl
theorem rest_xfer (hk : k ≠ 0) : bigSep ((sch (F := F) m).duties (kcell c k) 0 \ ∅) (fun d => (sch (F := F) m).payload (kcell c k) 0 d) = pay m c k 0 := by
  rw [Finset.sdiff_empty, duties_eq, dutiesOf, if_neg hk, bigSep_singleton, payload_eq]

end Sched

/-! ## What each device owes at launch; the levels -/

/-- After its four signals a device owes its partners the credits of its five copies, in the order it issues them (the
    first last). -/
def O₅ (c : Dev nD) : CellTallies nD τ sig Unit := tallyAt (kcell (pt 3 c) 10) () Ng
def O₄ (c : Dev nD) : CellTallies nD τ sig Unit := O₅ c + tallyAt (kcell (pt 2 c) 9) () Ng
def O₃ (c : Dev nD) : CellTallies nD τ sig Unit := O₄ c + tallyAt (kcell (pt 1 c) 8) () Ng
def O₂ (c : Dev nD) : CellTallies nD τ sig Unit := O₃ c + tallyAt (kcell (pt 0 c) 4) () Nm
def O₁ (c : Dev nD) : CellTallies nD τ sig Unit := O₂ c + tallyAt (kcell (pt 0 c) 3) () No
def B₁ (c : Dev nD) : CellTallies nD τ sig Unit := O₁ c + tallyAt (kcell (pt 3 c) 0) () 1
def B₂ (c : Dev nD) : CellTallies nD τ sig Unit := B₁ c + tallyAt (kcell (pt 2 c) 0) () 1
def B₃ (c : Dev nD) : CellTallies nD τ sig Unit := B₂ c + tallyAt (kcell (pt 1 c) 0) () 1
/-- What it owes at launch: those, and one barrier unit to each partner. -/
def O₀ (c : Dev nD) : CellTallies nD τ sig Unit := B₃ c + tallyAt (kcell (pt 0 c) 0) () 1

def L (g : GSem nD τ sig) : Finset Unit := if g.1.2 = .tc then {()} else ∅

/-- The level of a cell: the barrier 1, the arrivals along `y` 2, the arrivals of finished rows 3, everything else 0. -/
def lvK : Option (Fin 11) → ℕ
  | some 0 => 1
  | some 3 => 2 | some 4 => 2
  | some 8 => 3 | some 9 => 3 | some 10 => 3
  | _ => 0
def lv (g : GSem nD τ sig) (_ : Unit) : ℕ := lvK (kind g.2)

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Fin 11) : lv (kcell c k) () = lvK (some k) := by unfold lv; rw [kind_csem]

/-- `O` owes only cells of level `n` or more. -/
def Above (n : ℕ) (O : CellTallies nD τ sig Unit) : Prop := ∀ g u, 0 < O g u → g.1.2 = .tc ∧ n ≤ lv g u

theorem above_zero (n : ℕ) : Above n 0 := fun g u h => absurd h (Nat.lt_irrefl 0)
theorem above_tally (n : ℕ) (c : Dev nD) (k : Fin 11) (a : ℕ) (h : n ≤ lvK (some k)) : Above n (tallyAt (kcell c k) () a) := fun g u hg => by
  rw [tallyAt_apply] at hg
  by_cases hgk : g = kcell c k ∧ u = ()
  · rw [hgk.1]; exact ⟨rfl, by rw [lv_cell]; exact h⟩
  · rw [if_neg hgk] at hg; exact absurd hg (Nat.lt_irrefl 0)
theorem above_add {n : ℕ} {O O' : CellTallies nD τ sig Unit} (h : Above n O) (h' : Above n O') : Above n (O + O') := fun g u hg => by
  rw [Pi.add_apply, Finsupp.add_apply] at hg
  by_cases h0 : 0 < O g u
  · exact h g u h0
  · exact h' g u (by omega)

theorem above_O₅ (c : Dev nD) : Above 3 (O₅ c) := above_tally 3 _ 10 _ (by decide)
theorem above_O₄ (c : Dev nD) : Above 3 (O₄ c) := above_add (above_O₅ c) (above_tally 3 _ 9 _ (by decide))
theorem above_O₃ (c : Dev nD) : Above 3 (O₃ c) := above_add (above_O₄ c) (above_tally 3 _ 8 _ (by decide))
theorem Above.mono {n k : ℕ} {O : CellTallies nD τ sig Unit} (h : Above n O) (hk : k ≤ n) : Above k O := fun g u hg => ⟨(h g u hg).1, hk.trans (h g u hg).2⟩
theorem above_O₁ (c : Dev nD) : Above 2 (O₁ c) :=
  above_add (above_add ((above_O₃ c).mono (by decide)) (above_tally 2 _ 4 _ (by decide))) (above_tally 2 _ 3 _ (by decide))
theorem above_O₀ (c : Dev nD) : Above 1 (O₀ c) :=
  above_add (above_add (above_add (above_add ((above_O₁ c).mono (by decide)) (above_tally 1 _ 0 _ (by decide))) (above_tally 1 _ 0 _ (by decide)))
    (above_tally 1 _ 0 _ (by decide))) (above_tally 1 _ 0 _ (by decide))

/-- A device may wait on a cell below everything it owes. -/
theorem mayWait_of (c : Dev nD) (sm : SemLoc sig) (n : ℕ) (O : CellTallies nD τ sig Unit) (hO : Above n O) (hn : lvK (kind sm) < n) :
    (levAts L lv : sProp 𝕄) ⊢ MayWait (c : Thread nD τ) sm () O :=
  MayOwe.of_cut (L := L) (lev := lv) (lvK (kind sm)) (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact le_rfl)
    (fun g u hg => lt_of_lt_of_le hn (hO g u hg).2)

end Cert.Decode

end
-- ==== Proof.Reads.lean ====
/-
  What the body's loads read back: a chunk through its slot, the transposed queries through the eight stores that
  wrote them, the two columns of maxima and denominators.
-/
module

public import proofs.«01_k».proof.Proof.Protocol
public import Idealize.ShloMosaic.Lib.Pipeline.Value
public import Idealize.ShloMosaic.Lib.WritesUnit

@[expose] public section

noncomputable section

namespace Cert.Decode

open Cert.KernelIdeal Cert.KernelIdeal.Gen
open Idealize.ShloMosaic Idealize.ShloMosaic.TcCoe
open Idealize.ShloMosaic.ValueIdx (ix2 ix3)

variable {F : FTy → Type} [FloatOps F] [Named F]

theorem slot_inb (s : Fin 3) : ∀ a, (![s.val, 0, 0] : Fin 3 → ℕ) a + S1x4096x128.size a ≤ S3x4096x128.size a := by revert s; decide +kernel

abbrev kM : Memref sig .tc .vmem S3x4096x128 .f32 := Memref.whole cc0_scratch0
abbrev vM : Memref sig .tc .vmem S3x4096x128 .f32 := Memref.whole cc0_scratch1
/-- Slot `s` of the ring of keys, of the ring of values. -/
abbrev kS (s : Fin 3) : Memref sig .tc .vmem S4096x128 .f32 :=
  (kM.slice (Rect.unit (s := S3x4096x128) ![s.val, 0, 0] S1x4096x128.size (slot_inb s)) (fun _ => rfl)).squeeze S4096x128 squeezes_S1x4096x128_S4096x128
abbrev vS (s : Fin 3) : Memref sig .tc .vmem S4096x128 .f32 :=
  (vM.slice (Rect.unit (s := S3x4096x128) ![s.val, 0, 0] S1x4096x128.size (slot_inb s)) (fun _ => rfl)).squeeze S4096x128 squeezes_S1x4096x128_S4096x128

theorem shapeCast_inj {s s' : Shape} {α : Type} (h : s.ShapeCasts s') (a b : s.Idx → α) (he : shapeCast s' a h = shapeCast s' b h) : a = b := by
  funext i
  have := congrFun he ((Shape.reshapeEquiv h).symm i)
  simpa [shapeCast] using this

/-- A whole-view write reads back its payload, whatever was written before. -/
theorem read_whole_cons {sp : Space} {s : Shape} {e : EltTy} (v : View sig .tc sp s e) (f : v.ty.Contents (Elt F)) (x : s.Idx → Elt F e) (L : List (View.Piece (Elt F) s e)) :
    v.read (Elt F) (v.writes (Elt F) f (⟨Rect.whole s, x⟩ :: L)) = x := by
  funext y
  have h := View.read_writes_cons_emb v f (Rect.whole s) x L y
  rwa [Rect.emb_whole_apply] at h

/-- A slot a copy of a chunk has filled reads that chunk. -/
theorem slot_read {sp sp' : Space} (M : Memref sig .tc sp S3x4096x128 .f32) (A : Memref sig .tc sp' S4x32768x128 .f32)
    (r : Rect S3x4096x128) (hr : ∀ a, r.stride a = 1) (hq : r.shape.Squeezes S4096x128) (hc : r.shape.ShapeCasts S4096x128)
    (r' : Rect S4x32768x128) (hr' : ∀ a, r'.stride a = 1) (hq' : r'.shape.Squeezes S4096x128) (hc' : r'.shape.ShapeCasts S4096x128)
    (f : M.view.ty.Contents (Elt F)) (g : A.view.ty.Contents (Elt F)) (L : List (View.Piece (Elt F) S4096x128 .f32)) :
    shapeCast S4096x128 (M.view.readAt (Elt F) r.toLoadRect (((M.slice r hr).squeeze S4096x128 hq).view.writes (Elt F) f
        (⟨Rect.whole S4096x128, ReadAs.same.apply (((A.slice r' hr').squeeze S4096x128 hq').view.read (Elt F) g)⟩ :: L))) hc
      = shapeCast S4096x128 (A.view.readAt (Elt F) r'.toLoadRect g) hc' := by
  rw [← Memref.read_squeeze_slice M r hr hq hc, ← Memref.read_squeeze_slice A r' hr' hq' hc']
  exact read_whole_cons (((M.slice r hr).squeeze S4096x128 hq).view) f _ L

theorem kslot_read (s : Fin 3) (off : Fin 3 → ℕ) (inb : ∀ a, off a + S1x4096x128.size a ≤ S4x32768x128.size a) (inb' : ∀ a, (![s.val, 0, 0] : Fin 3 → ℕ) a + S1x4096x128.size a ≤ S3x4096x128.size a)
    (f : kM.view.ty.Contents (Elt F)) (g : (Memref.whole main_arg1).view.ty.Contents (Elt F)) (L : List (View.Piece (Elt F) S4096x128 .f32)) :
    (Memref.whole cc0_scratch0).view.readAt (Elt F) (Rect.unit (s := S3x4096x128) ![s.val, 0, 0] S1x4096x128.size inb').toLoadRect
        ((kS s).view.writes (Elt F) f (⟨Rect.whole S4096x128, ReadAs.same.apply ((((Memref.whole main_arg1).slice (Rect.unit (s := S4x32768x128) off S1x4096x128.size inb) (fun _ => rfl)).squeeze S4096x128 squeezes_S1x4096x128_S4096x128).view.read (Elt F) g)⟩ :: L))
      = (Memref.whole main_arg1).view.readAt (Elt F) (Rect.unit (s := S4x32768x128) off S1x4096x128.size inb).toLoadRect g :=
  shapeCast_inj shapeCasts_S1x4096x128_S4096x128 _ _ (slot_read _ _ _ _ _ _ _ _ _ _ f g L)

theorem vslot_read (s : Fin 3) (off : Fin 3 → ℕ) (inb : ∀ a, off a + S1x4096x128.size a ≤ S4x32768x128.size a) (inb' : ∀ a, (![s.val, 0, 0] : Fin 3 → ℕ) a + S1x4096x128.size a ≤ S3x4096x128.size a)
    (f : vM.view.ty.Contents (Elt F)) (g : (Memref.whole main_arg2).view.ty.Contents (Elt F)) (L : List (View.Piece (Elt F) S4096x128 .f32)) :
    (Memref.whole cc0_scratch1).view.readAt (Elt F) (Rect.unit (s := S3x4096x128) ![s.val, 0, 0] S1x4096x128.size inb').toLoadRect
        ((vS s).view.writes (Elt F) f (⟨Rect.whole S4096x128, ReadAs.same.apply ((((Memref.whole main_arg2).slice (Rect.unit (s := S4x32768x128) off S1x4096x128.size inb) (fun _ => rfl)).squeeze S4096x128 squeezes_S1x4096x128_S4096x128).view.read (Elt F) g)⟩ :: L))
      = (Memref.whole main_arg2).view.readAt (Elt F) (Rect.unit (s := S4x32768x128) off S1x4096x128.size inb).toLoadRect g :=
  shapeCast_inj shapeCasts_S1x4096x128_S4096x128 _ _ (slot_read _ _ _ _ _ _ _ _ _ _ f g L)

/-- The chunk at offsets `off`, which are chunk `j`'s. -/
theorem kBlk_eq (m : (ℓ : Loc nD τ sig) → Buf (Elt F) ℓ) (c : Dev nD) (j : Fin 8) (off : Fin 3 → ℕ) (inb : ∀ a, off a + S1x4096x128.size a ≤ S4x32768x128.size a)
    (h : off = ![row c, 4096 * j.val, 0]) :
    (Memref.whole main_arg1).view.readAt (Elt F) (Rect.unit (s := S4x32768x128) off S1x4096x128.size inb).toLoadRect (m ((c : Thread nD τ).loc main_arg1)) = kBlk m c j := by
  subst h; rfl
theorem vBlk_eq (m : (ℓ : Loc nD τ sig) → Buf (Elt F) ℓ) (c : Dev nD) (j : Fin 8) (off : Fin 3 → ℕ) (inb : ∀ a, off a + S1x4096x128.size a ≤ S4x32768x128.size a)
    (h : off = ![row c, 4096 * j.val, 0]) :
    (Memref.whole main_arg2).view.readAt (Elt F) (Rect.unit (s := S4x32768x128) off S1x4096x128.size inb).toLoadRect (m ((c : Thread nD τ).loc main_arg2)) = vBlk m c j := by
  subst h; rfl

theorem qHead_eq (m : (ℓ : Loc nD τ sig) → Buf (Elt F) ℓ) (c : Dev nD) (h : Fin 8) (off : Fin 4 → ℕ) (inb : ∀ a, off a + S1x32x1x128.size a ≤ S4x32x8x128.size a)
    (ho : off = ![row c, 0, h.val, 0]) :
    (Memref.whole cc0_stg0_0).view.readAt (Elt F) (Rect.unit (s := S4x32x8x128) off S1x32x1x128.size inb).toLoadRect (qStg m c) = qHead m c h := by
  subst ho; rfl

/-- Reading past stores of the other heads. -/
theorem qcat_read (m : (ℓ : Loc nD τ sig) → Buf (Elt F) ℓ) (c : Dev nD) (f : (Memref.whole cc0_scratch2).view.ty.Contents (Elt F))
    (w0 w1 w2 w3 w4 w5 w6 w7 : S128x32.Idx → Elt F .bf16)
    (h0 : w0 = k0_pay2 (qHead m c 0)) (h1 : w1 = k0_pay2 (qHead m c 1)) (h2 : w2 = k0_pay2 (qHead m c 2)) (h3 : w3 = k0_pay2 (qHead m c 3))
    (h4 : w4 = k0_pay2 (qHead m c 4)) (h5 : w5 = k0_pay2 (qHead m c 5)) (h6 : w6 = k0_pay2 (qHead m c 6)) (h7 : w7 = k0_pay2 (qHead m c 7)) :
    (Memref.whole cc0_scratch2).view.read (Elt F) ((Memref.whole cc0_scratch2).view.writes (Elt F) f
      [⟨Rect.unit (s := S128x256) ![0, 224] S128x32.size inb_S128x256_S128x32_0_224, w7⟩, ⟨Rect.unit (s := S128x256) ![0, 192] S128x32.size inb_S128x256_S128x32_0_192, w6⟩,
       ⟨Rect.unit (s := S128x256) ![0, 160] S128x32.size inb_S128x256_S128x32_0_160, w5⟩, ⟨Rect.unit (s := S128x256) ![0, 128] S128x32.size inb_S128x256_S128x32_0_128, w4⟩,
       ⟨Rect.unit (s := S128x256) ![0, 96] S128x32.size inb_S128x256_S128x32_0_96, w3⟩, ⟨Rect.unit (s := S128x256) ![0, 64] S128x32.size inb_S128x256_S128x32_0_64, w2⟩,
       ⟨Rect.unit (s := S128x256) ![0, 32] S128x32.size inb_S128x256_S128x32_0_32, w1⟩, ⟨Rect.unit (s := S128x256) ![0, 0] S128x32.size inb_S128x256_S128x32_0_0, w0⟩])
      = qcat m c := by
  funext y
  have hy0 : (y 0).val < 128 := (y 0).isLt
  have hy1 : (y 1).val < 256 := (y 1).isLt
  have key : ∀ (h : Fin 8) (hh : (y 1).val / 32 = h.val) (w : S128x32.Idx → Elt F .bf16), w = k0_pay2 (qHead m c h) →
      w (ix2 (n0 := 128) (n1 := 32) (y 0) ⟨(y 1).val % 32, Nat.mod_lt _ (by decide)⟩) = qcat m c y := by
    intro h hh w hw
    subst hw
    have he : (⟨(y 1).val / 32, by omega⟩ : Fin 8) = h := Fin.ext hh
    exact congrArg (fun h => k0_pay2 (qHead m c h) (ix2 (n0 := 128) (n1 := 32) (y 0) ⟨(y 1).val % 32, Nat.mod_lt _ (by decide)⟩)) he.symm
  have pos : ∀ (o : ℕ), (y 1).val / 32 * 32 = o → ∀ a : Fin 2, (y a).val = (![0, o] : Fin 2 → ℕ) a + ((ix2 (n0 := 128) (n1 := 32) (y 0) ⟨(y 1).val % 32, Nat.mod_lt _ (by decide)⟩) a).val := by
    intro o ho
    refine Fin.forall_fin_two.mpr ⟨(Nat.zero_add _).symm, ?_⟩
    show (y 1).val = o + (y 1).val % 32
    omega
  by_cases c7 : 224 ≤ (y 1).val
  · exact (View.read_writes_cons_unit_of_mem _ _ _ _ _ y _ rfl (pos 224 (by omega))).trans (key 7 (by show _ = 7; omega) w7 h7)
  rw [View.read_writes_cons_unit_of_not_mem _ _ _ _ _ y rfl 1 (.inl (by show _ < 224; omega))]
  by_cases c6 : 192 ≤ (y 1).val
  · exact (View.read_writes_cons_unit_of_mem _ _ _ _ _ y _ rfl (pos 192 (by omega))).trans (key 6 (by show _ = 6; omega) w6 h6)
  rw [View.read_writes_cons_unit_of_not_mem _ _ _ _ _ y rfl 1 (.inl (by show _ < 192; omega))]
  by_cases c5 : 160 ≤ (y 1).val
  · exact (View.read_writes_cons_unit_of_mem _ _ _ _ _ y _ rfl (pos 160 (by omega))).trans (key 5 (by show _ = 5; omega) w5 h5)
  rw [View.read_writes_cons_unit_of_not_mem _ _ _ _ _ y rfl 1 (.inl (by show _ < 160; omega))]
  by_cases c4 : 128 ≤ (y 1).val
  · exact (View.read_writes_cons_unit_of_mem _ _ _ _ _ y _ rfl (pos 128 (by omega))).trans (key 4 (by show _ = 4; omega) w4 h4)
  rw [View.read_writes_cons_unit_of_not_mem _ _ _ _ _ y rfl 1 (.inl (by show _ < 128; omega))]
  by_cases c3 : 96 ≤ (y 1).val
  · exact (View.read_writes_cons_unit_of_mem _ _ _ _ _ y _ rfl (pos 96 (by omega))).trans (key 3 (by show _ = 3; omega) w3 h3)
  rw [View.read_writes_cons_unit_of_not_mem _ _ _ _ _ y rfl 1 (.inl (by show _ < 96; omega))]
  by_cases c2 : 64 ≤ (y 1).val
  · exact (View.read_writes_cons_unit_of_mem _ _ _ _ _ y _ rfl (pos 64 (by omega))).trans (key 2 (by show _ = 2; omega) w2 h2)
  rw [View.read_writes_cons_unit_of_not_mem _ _ _ _ _ y rfl 1 (.inl (by show _ < 64; omega))]
  by_cases c1 : 32 ≤ (y 1).val
  · exact (View.read_writes_cons_unit_of_mem _ _ _ _ _ y _ rfl (pos 32 (by omega))).trans (key 1 (by show _ = 1; omega) w1 h1)
  rw [View.read_writes_cons_unit_of_not_mem _ _ _ _ _ y rfl 1 (.inl (by show _ < 32; omega))]
  exact (View.read_writes_cons_unit_of_mem _ _ _ _ _ y _ rfl (pos 0 (by omega))).trans (key 0 (by show _ = 0; omega) w0 h0)

/-- The two columns stored side by side. -/
theorem ml_writes (f : (Memref.whole cc0_scratch5).view.ty.Contents (Elt F)) (a b : S256x1.Idx → Elt F .f32) :
    (Memref.whole cc0_scratch5).view.writes (Elt F) f
      [⟨Rect.unit (s := S256x2) ![0, 1] S256x1.size inb_S256x2_S256x1_0_1, b⟩, ⟨Rect.unit (s := S256x2) ![0, 0] S256x1.size inb_S256x2_S256x1_0_0, a⟩]
      = (fun i => if (i 1).val = 0 then a (ix2 (n0 := 256) (n1 := 1) (i 0) 0) else b (ix2 (n0 := 256) (n1 := 1) (i 0) 0) : Vec F S256x2 .f32) := by
  refine (View.read_whole _ _).symm.trans ?_
  funext y
  have hy1 : (y 1).val < 2 := (y 1).isLt
  have hd : ∀ (g : (Memref.whole cc0_scratch5).view.ty.Contents (Elt F)), (View.whole cc0_scratch5).read (Elt F) g = (Memref.whole cc0_scratch5).view.read (Elt F) g := fun _ => rfl
  rw [hd]
  by_cases h : (y 1).val = 0
  · rw [if_pos h, View.read_writes_cons_unit_of_not_mem _ _ _ _ _ y rfl 1 (.inl (by show _ < 1; omega))]
    refine View.read_writes_cons_unit_of_mem _ _ _ _ _ y _ rfl (Fin.forall_fin_two.mpr ⟨(Nat.zero_add _).symm, ?_⟩)
    show (y 1).val = 0 + 0
    omega
  · rw [if_neg h]
    refine View.read_writes_cons_unit_of_mem _ _ _ _ _ y _ rfl (Fin.forall_fin_two.mpr ⟨(Nat.zero_add _).symm, ?_⟩)
    show (y 1).val = 1 + 0
    omega

end Cert.Decode

end
-- ==== Proof.Steps.lean ====
/-
  One rule per kind of talking step, at the protocol's cells: a barrier signal, the barrier wait, a remote copy, a wait
  for a departure or an arrival (which closes the cell: one round is all it has).
-/
module

public import proofs.«01_k».proof.Proof.Reads
public import Idealize.ShloMosaic.Lib.Pointwise.Reshape

@[expose] public section

noncomputable section

namespace Cert.Decode

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)
variable (K : Dev nD × Fin 11 → ℕ)

abbrev 𝒱₀ : Variants := Variants.none

/-- Every cell's invariant, and that its round 0 is reached. -/
def records : sProp 𝕄 :=
  bigSep Finset.univ fun ck : Dev nD × Fin 11 => iprop(cellInv ER (sch m) (K ck) (kcell ck.1 ck.2) ∗ reached ER (kcell ck.1 ck.2) 0)

instance records_persistent : BI.Persistent (records m K) := by unfold records; infer_instance

theorem inv_at (c : Dev nD) (k : Fin 11) : records m K ⊢ cellInv ER (sch m) (K (c, k)) (kcell c k) :=
  by
  have h : records m K ⊢ iprop(cellInv ER (sch m) (K (c, k)) (kcell c k) ∗ reached ER (kcell c k) 0) := bigSep_elim (Finset.mem_univ (c, k))
  iintro H
  ihave ⟨H, -⟩ := h $$ H
  iexact H
theorem reached_at (c : Dev nD) (k : Fin 11) : records m K ⊢ reached ER (kcell c k) 0 :=
  by
  have h : records m K ⊢ iprop(cellInv ER (sch m) (K (c, k)) (kcell c k) ∗ reached ER (kcell c k) 0) := bigSep_elim (Finset.mem_univ (c, k))
  iintro H
  ihave ⟨-, H⟩ := h $$ H
  iexact H

/-- What `c` hands over with its signal to partner `i`: its landing buffers along `y`, or the block partner `i` fills. -/
def give (c : Dev nD) (i : Fin 4) : sProp 𝕄 := if i = 0 then iprop(someO c ∗ someM c) else someB c (pt i c)

theorem give_eq (c : Dev nD) (i : Fin 4) : give (F := F) c i = barPay (pt i c) i := by
  unfold give barPay
  by_cases h : i = 0
  · subst h; rw [if_pos rfl, if_pos rfl, pt_pt]
  · rw [if_neg h, if_neg h, pt_pt]

section Rules
variable (c : Dev nD) {α : Type} {k : PUnit → Prog (TpuEff nD τ sig (Elt F) Λ₀ .tc) α} (O : CellTallies nD τ sig Unit) (W : Waits sig Unit)

/-- A signal to partner `i`'s barrier. -/
theorem wp_sig {Q : α → sProp 𝕄} (i : Fin 4) (n : Dev nD) (hn : n = pt i c) {O' : CellTallies nD τ sig Unit} (hO : O' = O + tallyAt (kcell (pt i c) 0) () 1) :
    iprop(records m K ∗ owes (c : Thread nD τ) O' W ∗ dutyTok ER (kcell (pt i c) 0) 0 i ∗ give c i)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS (1#32).toInt) k) Q) := by
  subst hn
  iintro ⟨#HR, HO, Ht, Hg⟩
  iapply (Rounds.wp_signal 𝒱₀ ER (sch m) (c : Thread nD τ) none (dst := (pt i c : Thread nD τ)) (κ := K (pt i c, 0))
      (d := i) (mem_bar m (pt i c) i) ((amount_eq m (pt i c) 0 i).trans (by decide)) () O hO)
  isplitr; · iapply (inv_at m K (pt i c) 0); iexact HR
  isplitl [HO]; · iexact HO
  isplitl [Ht]; · iexact Ht
  isplitl [Hg]
  · iapply (Entails.of_eq ((give_eq c i).trans (payload_eq m (pt i c) 0 i).symm)) $$ Hg
  iapply (reached_at m K (pt i c) 0); iexact HR

/-- The wait for the four partners. -/
theorem wp_bar {Q : α → sProp 𝕄} (hO : Above 2 O) :
    iprop(records m K ∗ levAts L lv ∗ cred (tallyAt (kcell c 0) () 4) ∗ owes (c : Thread nD τ) O W ∗ atPos ER (kcell c 0) 0 ∅ 0)
      ⊢ iprop(((owes (c : Thread nD τ) O (insert (csem 0, ()) W) ∗ semVal (kcell c 0) 0
              ∗ (someO (pt 0 c) ∗ someM (pt 0 c)) ∗ someB (pt 1 c) c ∗ someB (pt 2 c) c ∗ someB (pt 3 c) c)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS (4#32).toInt) k) Q) := by
  iintro ⟨#HR, #Hlev, Hc, HO, Ha⟩ Hk
  iapply (Rounds.wp_wait_rest_token 𝒱₀ ER (sch m) (c : Thread nD τ) none (κ := K (c, 0))
      (wpE_semWait_eq 𝒱₀ (c : Thread nD τ) none Set.univ) (Set.mem_univ _) () (O := O) (W := W) (R := 0) (m := 0) (T := ∅)
      (by rw [expect_bar m c]; decide)) $$ [Hc HO Ha]
  · isplitr; · iapply (inv_at m K c 0); iexact HR
    isplitl [Hc]; · iexact Hc
    isplitl [HO]; · iexact HO
    isplitr; · iapply (mayWait_of c (csem 0) 2 O hO (by rw [kind_csem]; decide)); iexact Hlev
    iexact Ha
  iintro ⟨HO, Ha, -, Hpay⟩
  ihave Hp := (Entails.of_eq (rest_bar m c)) $$ Hpay
  imod (Rounds.cell_close ER (sch m) (Set.mem_univ (K (c, 0))) (fun h => h) (R := 0 + 1) (duties_later m (kcell c 0))) $$ [Ha] with Hz
  · isplitr; · iapply (inv_at m K c 0); iexact HR
    iexact Ha
  iapply Hk
  isplitl [HO]; · iexact HO
  isplitl [Hz]; · iexact Hz
  unfold barPay
  rw [if_pos rfl, if_neg (by decide), if_neg (by decide), if_neg (by decide)]
  iexact Hp

/-- A wait for a departure or an arrival. -/
theorem wp_xfer {Q : α → sProp 𝕄} (j : Fin 11) (hj : j ≠ 0) {n : ℕ} (hO : Above n O) (hn : lvK (some j) < n) {q : DmaSem sig} (hq : SemLoc.dma q = csem j)
    {sp sp' : Space} {s s' : Shape} {e e' : EltTy} {src : Memref sig (c : Thread nD τ).2.kind sp' s' e'} {κ' : Kind} {dst : Memref sig κ' sp s e} {hsrc : src.view.WordExact} {hdst : dst.view.WordExact}
    (hc : dst.view.dmaCredit = amt j) :
    iprop(records m K ∗ levAts L lv ∗ cred (tallyAt (kcell c j) () (amt j)) ∗ owes (c : Thread nD τ) O W ∗ atPos ER (kcell c j) 0 ∅ 0)
      ⊢ iprop(((owes (c : Thread nD τ) O (insert (csem j, ()) W) ∗ semVal (kcell c j) 0 ∗ pay m c j 0)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  iintro ⟨#HR, #Hlev, Hc, HO, Ha⟩ Hk
  iapply (Rounds.wp_wait_rest_token 𝒱₀ ER (sch m) (c : Thread nD τ) none (κ := K (c, j)) (sm := csem j) (k' := amt j)
      (fun Kt => by rw [wpE_waitDma2_eq 𝒱₀ (c : Thread nD τ) none Set.univ, hq, hc]) (Set.mem_univ _) () (O := O) (W := W) (R := 0) (m := 0) (T := ∅)
      (by rw [expect_xfer m c j hj, Nat.zero_add])) $$ [Hc HO Ha]
  · isplitr; · iapply (inv_at m K c j); iexact HR
    isplitl [Hc]; · iexact Hc
    isplitl [HO]; · iexact HO
    isplitr; · iapply (mayWait_of c (csem j) n O hO (by rw [kind_csem]; exact hn)); iexact Hlev
    iexact Ha
  iintro ⟨HO, Ha, -, Hpay⟩
  ihave Hp := (Entails.of_eq (rest_xfer m c j hj)) $$ Hpay
  imod (Rounds.cell_close ER (sch m) (Set.mem_univ (K (c, j))) (fun h => h) (R := 0 + 1) (duties_later m (kcell c j))) $$ [Ha] with Hz
  · isplitr; · iapply (inv_at m K c j); iexact HR
    iexact Ha
  iapply Hk
  isplitl [HO]; · iexact HO
  isplitl [Hz]; · iexact Hz
  iexact Hp

/-- A DMA semaphore's units are the destination's. -/
theorem amount_csem {κ : Kind} {sp : Space} {s : Shape} {e : EltTy} (v : View sig κ sp s e) (j : Fin 11) (hj : j ≠ 0) :
    v.amount (csem j) = v.dmaCredit := by
  revert hj; fin_cases j <;> intro hj <;> first | exact absurd rfl hj | rfl

theorem amt_1 : amt 1 = No := by unfold amt; rfl
theorem amt_2 : amt 2 = Nm := by unfold amt; rfl
theorem amt_3 : amt 3 = No := by unfold amt; rfl
theorem amt_4 : amt 4 = Nm := by unfold amt; rfl

/-- A remote copy to device `n = pt i c`, departure cell `j`, arrival cell `j'` there. -/
theorem wp_copy {Q : α → sProp 𝕄} (i : Fin 4) (j j' : Fin 11) (hj : j ≠ 0) (hj' : j' ≠ 0) (n : Dev nD) (hn : n = pt i c)
    {sp sp' : Space} {s : Shape} {e : EltTy} {src : Memref sig (c : Thread nD τ).2.kind sp s e} {dst : Memref sig .tc sp' s e}
    {hsc : dst.view.ref.isScScratch = false} {qs qr : SemLoc sig} (hqs : qs = csem j) (hqr : qr = csem j')
    {hsrc : src.view.WordExact} {hdst : dst.view.WordExact}
    {hsem : DmaTarget.Typed sp qr (.remote (Dev.tc n : Thread nD τ) dst qs hsc)}
    (q : PosShare TreeShare) (fs : Buf (Elt F) (src.view.loc (c : Thread nD τ))) (fd : Buf (Elt F) (dst.view.loc (pt i c : Thread nD τ)))
    (hN : dst.view.dmaCredit = amt j') (hjj : amt j = amt j')
    {O' : CellTallies nD τ sig Unit} (hO : O' = O + tallyAt (kcell (pt i c) j') () (amt j'))
    (hp₁ : (src.view.loc (c : Thread nD τ) ↦[src.view.set]{q} fs : sProp 𝕄) ⊢ pay m c j 0)
    (hp₂ : (dst.view.loc (pt i c : Thread nD τ) ↦[dst.view.set]{fullShare} (dst.view.write (Elt F) fd (src.view.read (Elt F) fs) Finset.univ) : sProp 𝕄) ⊢ pay m (pt i c) j' 0) :
    iprop(records m K ∗ (src.view.loc (c : Thread nD τ) ↦[src.view.set]{q} fs) ∗ (dst.view.loc (pt i c : Thread nD τ) ↦[dst.view.set]{fullShare} fd)
        ∗ owes (c : Thread nD τ) O' W ∗ dutyTok ER (kcell c j) 0 0 ∗ dutyTok ER (kcell (pt i c) j') 0 0)
      ⊢ iprop(((cred (tallyAt (kcell c j) () (amt j')) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst qs hsc) qr hsrc hdst hsem) k) Q) := by
  subst hn hqs hqr
  refine BIBase.Entails.trans ?_ (Rounds.wp_send_pointsTo 𝒱₀ ER (sch m) (c : Thread nD τ) none (κ₁ := K (c, j)) (κ₂ := K (pt i c, j'))
    (r₁ := 0) (r₂ := 0) (d₁ := 0) (d₂ := 0) (fs := fs) (fd := fd) (q := q)
    (mem_xfer m c j hj) (mem_xfer m (pt i c) j' hj')
    () () (amt j') ((amount_csem _ j' hj').trans hN) ((amount_eq m c j 0).trans hjj) (amount_eq m (pt i c) j' 0) O hO (W := W)
    (hp₁.trans (Entails.of_eq (payload_eq m c j 0).symm))
    (hp₂.trans (Entails.of_eq (payload_eq m (pt i c) j' 0).symm)))
  iintro ⟨#HR, Hs, Hd, HO, Ht, Ht'⟩
  isplitr; · iapply (inv_at m K c j); iexact HR
  isplitr; · iapply (inv_at m K (pt i c) j'); iexact HR
  isplitl [Hs]; · iexact Hs
  isplitl [Hd]; · iexact Hd
  isplitl [HO]; · iexact HO
  isplitl [Ht]; · iexact Ht
  isplitr; · iapply (reached_at m K c j); iexact HR
  isplitl [Ht']; · iexact Ht'
  iapply (reached_at m K (pt i c) j'); iexact HR

/-- What lands in the partner's buffers along `y`. -/
theorem o_land (fd : Buf (Elt F) (orM.view.loc (pt 0 c : Thread nD τ))) :
    (orM.view.loc (pt 0 c : Thread nD τ) ↦[orM.view.set]{fullShare} (orM.view.write (Elt F) fd (osM.view.read (Elt F) (oSend m c)) Finset.univ) : sProp 𝕄) ⊢ oIn m (pt 0 c) := by
  unfold oIn; rw [pt_pt]
  exact Entails.of_eq (congrArg (fun g => (orM.view.loc (pt 0 c : Thread nD τ) ↦[orM.view.set]{fullShare} g : sProp 𝕄)) (View.write_whole_univ cc0_scratch4 fd (oSend m c)))
theorem m_land (fd : Buf (Elt F) (mrM.view.loc (pt 0 c : Thread nD τ))) :
    (mrM.view.loc (pt 0 c : Thread nD τ) ↦[mrM.view.set]{fullShare} (mrM.view.write (Elt F) fd (msM.view.read (Elt F) (mlSend m c)) Finset.univ) : sProp 𝕄) ⊢ mIn m (pt 0 c) := by
  unfold mIn; rw [pt_pt]
  exact Entails.of_eq (congrArg (fun g => (mrM.view.loc (pt 0 c : Thread nD τ) ↦[mrM.view.set]{fullShare} g : sProp 𝕄)) (View.write_whole_univ cc0_scratch6 fd (mlSend m c)))
/-- What lands in a partner's gathered array: the sender's row. -/
theorem g_land (i : Fin 4) (hi : i ≠ 0) (fd : Buf (Elt F) ((obS c).view.loc (pt i c : Thread nD τ))) :
    ((obS c).view.loc (pt i c : Thread nD τ) ↦[(obS c).view.set]{fullShare} ((obS c).view.write (Elt F) fd ((obS c).view.read (Elt F) (obFinal m c)) Finset.univ) : sProp 𝕄)
      ⊢ rowPts m (pt i c) (pt i (pt i c)) fullShare := by
  unfold rowPts; rw [pt_pt, obFinal_pt m i hi]
  refine Entails.of_eq (pointsTo_congr fun j hj => ?_)
  rw [View.write_read_eq_piecewise]
  exact Finset.piecewise_eq_of_mem _ _ _ hj

variable {qs qr : SemLoc sig}

theorem copy_o {Q : α → sProp 𝕄} (n : Dev nD) (hn : n = pt 0 c) {hsc : orM.view.ref.isScScratch = false} (hqs : qs = csem 1) (hqr : qr = csem 3)
    {hsrc : osM.view.WordExact} {hdst : orM.view.WordExact} {hsem : DmaTarget.Typed .vmem qr (.remote (Dev.tc n : Thread nD τ) orM qs hsc)} :
    iprop(records m K ∗ oPts m c ∗ someO (pt 0 c) ∗ owes (c : Thread nD τ) (O₁ c) W ∗ dutyTok ER (kcell c 1) 0 0 ∗ dutyTok ER (kcell (pt 0 c) 3) 0 0)
      ⊢ iprop(((cred (tallyAt (kcell c 1) () (amt 3)) ∗ owes (c : Thread nD τ) (O₂ c) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma osM (.remote (Dev.tc n : Thread nD τ) orM qs hsc) qr hsrc hdst hsem) k) Q) := by
  unfold oPts someO
  iintro ⟨#HR, Hs, ⟨%fd, Hd⟩, HO, Ht, Ht'⟩
  have e1 : orM.view.dmaCredit = amt 3 := amt_3.symm
  have e2 : amt 1 = amt 3 := amt_1.trans amt_3.symm
  have e3 : O₁ c = O₂ c + tallyAt (kcell (pt 0 c) 3) () (amt 3) := by unfold O₁; rw [amt_3]
  have e4 : oPts m c ⊢ pay m c 1 0 := Entails.of_eq (by unfold pay; rfl)
  have e5 : oIn m (pt 0 c) ⊢ pay m (pt 0 c) 3 0 := Entails.of_eq (by unfold pay; rfl)
  have h := wp_copy m K c (O₂ c) W (k := k) (Q := Q) 0 1 3 (by decide) (by decide) n hn hqs hqr (hsc := hsc) (hsrc := hsrc) (hdst := hdst) (hsem := hsem) fullShare (oSend m c) fd e1 e2 e3 e4 ((o_land m c fd).trans e5)
  iapply h
  isplitr; · iexact HR
  isplitl [Hs]; · iexact Hs
  isplitl [Hd]; · iexact Hd
  isplitl [HO]; · iexact HO
  isplitl [Ht]; · iexact Ht
  iexact Ht'

theorem copy_m {Q : α → sProp 𝕄} (n : Dev nD) (hn : n = pt 0 c) {hsc : mrM.view.ref.isScScratch = false} (hqs : qs = csem 2) (hqr : qr = csem 4)
    {hsrc : msM.view.WordExact} {hdst : mrM.view.WordExact} {hsem : DmaTarget.Typed .vmem qr (.remote (Dev.tc n : Thread nD τ) mrM qs hsc)} :
    iprop(records m K ∗ mPts m c ∗ someM (pt 0 c) ∗ owes (c : Thread nD τ) (O₂ c) W ∗ dutyTok ER (kcell c 2) 0 0 ∗ dutyTok ER (kcell (pt 0 c) 4) 0 0)
      ⊢ iprop(((cred (tallyAt (kcell c 2) () (amt 4)) ∗ owes (c : Thread nD τ) (O₃ c) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma msM (.remote (Dev.tc n : Thread nD τ) mrM qs hsc) qr hsrc hdst hsem) k) Q) := by
  unfold mPts someM
  iintro ⟨#HR, Hs, ⟨%fd, Hd⟩, HO, Ht, Ht'⟩
  have e1 : mrM.view.dmaCredit = amt 4 := amt_4.symm
  have e2 : amt 2 = amt 4 := amt_2.trans amt_4.symm
  have e3 : O₂ c = O₃ c + tallyAt (kcell (pt 0 c) 4) () (amt 4) := by unfold O₂; rw [amt_4]
  have e4 : mPts m c ⊢ pay m c 2 0 := Entails.of_eq (by unfold pay; rfl)
  have e5 : mIn m (pt 0 c) ⊢ pay m (pt 0 c) 4 0 := Entails.of_eq (by unfold pay; rfl)
  have h := wp_copy m K c (O₃ c) W (k := k) (Q := Q) 0 2 4 (by decide) (by decide) n hn hqs hqr (hsc := hsc) (hsrc := hsrc) (hdst := hdst) (hsem := hsem) fullShare (mlSend m c) fd e1 e2 e3 e4 ((m_land m c fd).trans e5)
  iapply h
  isplitr; · iexact HR
  isplitl [Hs]; · iexact Hs
  isplitl [Hd]; · iexact Hd
  isplitl [HO]; · iexact HO
  isplitl [Ht]; · iexact Ht
  iexact Ht'

/-- The credits of a row do not depend on which row. -/
theorem obS_credit (d : Dev nD) : (obS d).view.dmaCredit = Ng := rfl

/-- The three cells of the copies of the finished row to partner `i`. -/
def gOut (i : Fin 4) : Fin 11 := match i with | 0 => 1 | 1 => 5 | 2 => 6 | 3 => 7
def gIn (i : Fin 4) : Fin 11 := match i with | 0 => 3 | 1 => 8 | 2 => 9 | 3 => 10
def gshOf (i : Fin 4) : PosShare TreeShare := match i with | 0 => gsh 0 | 1 => gsh 0 | 2 => gsh 1 | 3 => gsh 2

theorem copy_g {Q : α → sProp 𝕄} (i : Fin 4) (hi : i ≠ 0) (n : Dev nD) (hn : n = pt i c) {hsc : (obS c).view.ref.isScScratch = false} (hqs : qs = csem (gOut i)) (hqr : qr = csem (gIn i))
    {hsrc : (obS c).view.WordExact} {hdst : (obS c).view.WordExact} {hsem : DmaTarget.Typed .vmem qr (.remote (Dev.tc n : Thread nD τ) (obS c) qs hsc)}
    {O' : CellTallies nD τ sig Unit} (hO : O' = O + tallyAt (kcell (pt i c) (gIn i)) () Ng) :
    iprop(records m K ∗ rowPts m c c (gshOf i) ∗ someB (pt i c) c ∗ owes (c : Thread nD τ) O' W ∗ dutyTok ER (kcell c (gOut i)) 0 0 ∗ dutyTok ER (kcell (pt i c) (gIn i)) 0 0)
      ⊢ iprop(((cred (tallyAt (kcell c (gOut i)) () Ng) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (obS c) (.remote (Dev.tc n : Thread nD τ) (obS c) qs hsc) qr hsrc hdst hsem) k) Q) := by
  have h1 : gOut i ≠ 0 := by clear hn hqs hqr hO; revert hi; revert i; decide
  have h2 : gIn i ≠ 0 := by clear hn hqs hqr hO; revert hi; revert i; decide
  have a1 : amt (gOut i) = Ng := by clear hn hqs hqr hO; revert hi; fin_cases i <;> intro hi <;> first | exact absurd rfl hi | rfl
  have a2 : amt (gIn i) = Ng := by clear hn hqs hqr hO; revert hi; fin_cases i <;> intro hi <;> first | exact absurd rfl hi | rfl
  have p1 : pay m c (gOut i) 0 = rowPts m c c (gshOf i) := by clear hn hqs hqr hO; revert hi; fin_cases i <;> intro hi <;> first | exact absurd rfl hi | rfl
  have p2 : pay m (pt i c) (gIn i) 0 = rowPts m (pt i c) (pt i (pt i c)) fullShare := by clear hn hqs hqr hO; revert hi; fin_cases i <;> intro hi <;> first | exact absurd rfl hi | rfl
  unfold someB rowPts
  iintro ⟨#HR, Hs, ⟨%fd, Hd⟩, HO, Ht, Ht'⟩
  have h := wp_copy m K c O W (k := k) (Q := Q) i (gOut i) (gIn i) h1 h2 n hn hqs hqr (hsc := hsc) (hsrc := hsrc) (hdst := hdst) (hsem := hsem) (gshOf i) (obFinal m c) fd ((obS_credit c).trans a2.symm) (a1.trans a2.symm) (a2.symm ▸ hO)
    (Entails.of_eq p1.symm) ((g_land m c i hi fd).trans (Entails.of_eq p2.symm))
  rw [a2] at h
  iapply h
  isplitr; · iexact HR
  isplitl [Hs]; · iexact Hs
  isplitl [Hd]; · iexact Hd
  isplitl [HO]; · iexact HO
  isplitl [Ht]; · iexact Ht
  iexact Ht'

theorem credit_1 : osM.view.dmaCredit = amt 1 := by rw [amt_1]
theorem credit_2 : msM.view.dmaCredit = amt 2 := by rw [amt_2]
theorem credit_g (d : Dev nD) (j : Fin 11) (hj : 5 ≤ j) : (obS d).view.dmaCredit = amt j := by
  rw [obS_credit]; revert hj; fin_cases j <;> intro hj <;> first | exact absurd hj (by decide) | rfl

end Rules

end Cert.Decode

end
-- ==== Proof.Rows.lean ====
/-
  The gathered array by rows: the elements under a device's block are those of the row it computes; four such blocks make
  the array; storing the merged row fills a block.
-/
module

public import proofs.«01_k».proof.Proof.Protocol
public import Idealize.ShloMosaic.Lib.Pointwise.Reshape

@[expose] public section

noncomputable section

namespace Cert.Decode

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)

/-- An element is under device `d`'s block when it is in the row `d` computes. -/
theorem mem_obS (d : Dev nD) (j : S4x256x128.Idx) : j ∈ (obS d).view.set ↔ (j 0).val = row d := by
  have e : (obS d).view.set = (Rect.unit (s := S4x256x128) (k0_off18 d) S1x256x128.size (k0_off18_inb d)).set := by
    refine (View.set_reshape _ _).trans ?_
    exact View.set_slice_whole cc0_scratch7 (Rect.unit (s := S4x256x128) (k0_off18 d) S1x256x128.size (k0_off18_inb d))
  rw [e, Rect.mem_set_unit, k0_off18_eq d]
  have h1 : (j 1).val < 256 := (j 1).isLt
  have h2 : (j 2).val < 128 := (j 2).isLt
  constructor
  · intro h
    have h0 : row d ≤ (j 0).val ∧ (j 0).val < row d + 1 := h 0
    omega
  · intro h a
    match a with
    | 0 => show row d ≤ (j 0).val ∧ (j 0).val < row d + 1; omega
    | 1 => show 0 ≤ (j 1).val ∧ (j 1).val < 0 + 256; omega
    | 2 => show 0 ≤ (j 2).val ∧ (j 2).val < 0 + 128; omega

/-- The devices whose rows device `c` gathers, itself first. -/
def gat (c : Dev nD) (i : Fin 4) : Dev nD := if i = 0 then c else pt i c

theorem gat_row (c : Dev nD) (i j : Fin 4) (h : i ≠ j) : row (gat c i) ≠ row (gat c j) := by revert c i j h; decide
theorem gat_cover (c : Dev nD) (r : Fin 4) : ∃ i, row (gat c i) = r.val := by revert c r; decide

/-- The array, block by block. -/
theorem ob_split (c : Dev nD) (f : Buf (Elt F) (obM.view.loc (c : Thread nD τ))) :
    (obM.view.loc (c : Thread nD τ) ↦[Finset.univ]{fullShare} f : sProp 𝕄)
      = iprop(((obS c).view.loc (c : Thread nD τ) ↦[(obS c).view.set]{fullShare} f) ∗ ((obS (pt 1 c)).view.loc (c : Thread nD τ) ↦[(obS (pt 1 c)).view.set]{fullShare} f)
        ∗ ((obS (pt 2 c)).view.loc (c : Thread nD τ) ↦[(obS (pt 2 c)).view.set]{fullShare} f) ∗ ((obS (pt 3 c)).view.loc (c : Thread nD τ) ↦[(obS (pt 3 c)).view.set]{fullShare} f)) := by
  have hu : (Finset.univ : Finset S4x256x128.Idx) = (Finset.univ : Finset (Fin 4)).biUnion fun i => ((obS (gat c i)).view.set : Finset S4x256x128.Idx) := by
    ext j
    simp only [Finset.mem_univ, Finset.mem_biUnion, true_and, true_iff]
    obtain ⟨i, hi⟩ := gat_cover c (j 0)
    exact ⟨i, (mem_obS _ j).mpr hi.symm⟩
  have h := pointsTo_biUnion (nD := nD) (τ := τ) (sig := sig) (Ix := Unit) (Val := Elt F) (Lvl := ℕ) (U := UU) (Name := ℕ) (ℓ := obM.view.loc (c : Thread nD τ)) (q := fullShare) (f := f)
    (Finset.univ : Finset (Fin 4)) (fun i => ((obS (gat c i)).view.set : Finset S4x256x128.Idx)) (fun i _ i' _ hne =>
      Finset.disjoint_left.mpr fun j hj hj' => gat_row c i i' hne (((mem_obS _ j).mp hj).symm.trans ((mem_obS _ j).mp hj')))
  refine (congrArg (fun s : Finset S4x256x128.Idx => (obM.view.loc (c : Thread nD τ) ↦[s]{fullShare} f : sProp 𝕄)) hu).trans (h.trans ?_)
  exact bigSep_univ_eq_bigSepL [0, 1, 2, 3] (by decide) (by decide) _

/-- The merged row stored fills the block. -/
theorem row_store (c : Dev nD) (fob : Buf (Elt F) (obM.view.loc (c : Thread nD τ))) (w : Vec F S1x256x128 .bf16) (hw : w = k0_pay73 (merged m c)) :
    ∀ j ∈ (obS c).view.set, (View.write (Elt F) (obM.access (Rect.unit (s := S4x256x128) (k0_off17 c) S1x256x128.size (k0_off17_inb c))) fob w Finset.univ
      : Buf (Elt F) (obM.view.loc (c : Thread nD τ))) j = (obFinal m c : S4x256x128.Idx → Elt F .bf16) j := by
  intro j hj
  have hr := (mem_obS c j).mp hj
  have hx : (obM.access (Rect.unit (s := S4x256x128) (k0_off17 c) S1x256x128.size (k0_off17_inb c))).emb (ValueIdx.ix3 (n0 := 1) (n1 := 256) (n2 := 128) 0 (j 1) (j 2)) = j := by
    funext a
    refine Fin.ext ?_
    show k0_off17 c a + 1 * ((ValueIdx.ix3 (n0 := 1) (n1 := 256) (n2 := 128) 0 (j 1) (j 2)) a).val = (j a).val
    rw [k0_off17_eq c]
    match a with
    | 0 => show row c + 1 * 0 = (j 0).val; omega
    | 1 => show 0 + 1 * (j 1).val = (j 1).val; omega
    | 2 => show 0 + 1 * (j 2).val = (j 2).val; omega
  have h := View.write_emb_of_mem (Val := Elt F) (v := obM.access (Rect.unit (s := S4x256x128) (k0_off17 c) S1x256x128.size (k0_off17_inb c))) fob w
    (Finset.mem_univ (ValueIdx.ix3 (n0 := 1) (n1 := 256) (n2 := 128) 0 (j 1) (j 2)))
  rw [hx] at h
  refine h.trans ?_
  subst hw
  have hd : devAt c (j 0) = c := (congrArg (devAt c) (Fin.ext hr : (j 0 : Fin 4) = ⟨row c, row_lt c⟩)).trans (devAt_self c)
  have hs : k0_pay73 (merged m c) (ValueIdx.ix3 (n0 := 1) (n1 := 256) (n2 := 128) 0 (j 1) (j 2)) = merged m c (ix2 (n0 := 256) (n1 := 128) (j 1) (j 2)) := by
    unfold k0_pay73
    simp only [pointwise]
  refine Eq.trans hs ?_
  show _ = merged m (devAt c (j 0)) _
  rw [hd]
  rfl

theorem row_filled (c : Dev nD) (fob : Buf (Elt F) (obM.view.loc (c : Thread nD τ))) (w : Vec F S1x256x128 .bf16) (hw : w = k0_pay73 (merged m c))
    (g : Buf (Elt F) ((obS c).view.loc (c : Thread nD τ))) (hg : g = (View.write (Elt F) (obM.access (Rect.unit (s := S4x256x128) (k0_off17 c) S1x256x128.size (k0_off17_inb c))) fob w Finset.univ
      : Buf (Elt F) (obM.view.loc (c : Thread nD τ)))) :
    ((obS c).view.loc (c : Thread nD τ) ↦[(obS c).view.set]{fullShare} g : sProp 𝕄) ⊢ rowPts m c c fullShare := by
  subst hg
  unfold rowPts
  exact Entails.of_eq (pointsTo_congr (row_store m c fob w hw))

/-- The columns of what the `y` partner sent, as read back. -/
theorem ml_col0 (c : Dev nD) (inb) : (Memref.whole cc0_scratch6).view.readAt (Elt F) (Rect.unit (s := S256x2) ![0, 0] S256x1.size inb).toLoadRect (mlSend m c : Vec F S256x2 .f32) = mCol m c := by
  funext x
  have h0 : (x 1).val < 1 := (x 1).isLt
  show mlSend m c ((Rect.unit (s := S256x2) ![0, 0] S256x1.size inb).emb x) = _
  refine (if_pos (show 0 + 1 * (x 1).val = 0 by omega)).trans ?_
  refine congrArg (mCol m c) (funext fun a => Fin.ext ?_)
  match a with
  | 0 => show 0 + 1 * (x 0).val = (x 0).val; omega
  | 1 => show 0 = (x 1).val; omega
theorem ml_col1 (c : Dev nD) (inb) : (Memref.whole cc0_scratch6).view.readAt (Elt F) (Rect.unit (s := S256x2) ![0, 1] S256x1.size inb).toLoadRect (mlSend m c : Vec F S256x2 .f32) = lCol m c := by
  funext x
  have h0 : (x 1).val < 1 := (x 1).isLt
  show mlSend m c ((Rect.unit (s := S256x2) ![0, 1] S256x1.size inb).emb x) = _
  refine (if_neg (show ¬ 1 + 1 * (x 1).val = 0 by omega)).trans ?_
  refine congrArg (lCol m c) (funext fun a => Fin.ext ?_)
  match a with
  | 0 => show 0 + 1 * (x 0).val = (x 0).val; omega
  | 1 => show 0 = (x 1).val; omega

/-- The block's three shares, and back. -/
theorem row_shares (c : Dev nD) : (rowPts m c c fullShare : sProp 𝕄) ⊣⊢ iprop(rowPts m c c (gsh 0) ∗ rowPts m c c (gsh 1) ∗ rowPts m c c (gsh 2)) := by
  unfold rowPts
  have h1 := pointsTo_share (ℓ := (obS c).view.loc (c : Thread nD τ)) (I := (obS c).view.set) (f := (obFinal m c : Buf (Elt F) ((obS c).view.loc (c : Thread nD τ)))) (Val := Elt F) (Ix := Unit) (Lvl := ℕ) (Name := ℕ) (U := UU) (PosShare.mem_left_op_right (fullShare : PosShare TreeShare))
  have h2 := pointsTo_share (ℓ := (obS c).view.loc (c : Thread nD τ)) (I := (obS c).view.set) (f := (obFinal m c : Buf (Elt F) ((obS c).view.loc (c : Thread nD τ)))) (Val := Elt F) (Ix := Unit) (Lvl := ℕ) (Name := ℕ) (U := UU) (PosShare.mem_left_op_right (fullShare : PosShare TreeShare).right)
  constructor
  · refine h1.1.trans ?_
    exact sep_mono .rfl h2.1
  · refine BIBase.Entails.trans ?_ h1.2
    exact sep_mono .rfl h2.2

end Cert.Decode

end
-- ==== Proof.Bufs.lean ====
module

public import proofs.«01_k».proof.Proof.Steps
public import proofs.«01_k».proof.Proof.Rows

/-!
# The buffers of one device

What the body of a device is given and what it leaves; the three slots of a ring as the whole ring, and back.
-/

@[expose] public section
noncomputable section
namespace Cert.Decode
open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
local notation "𝕄" => MT nD τ sig Unit (Elt F) ℕ UU ℕ
variable (m : (ℓ : Loc nD τ sig) → Buf (Elt F) ℓ) (ρ : Dev nD → PrngReg)
variable (K : Dev nD × Fin 11 → ℕ)

/-- What device `c` holds of its own memory besides the exchange buffers: its block of keys and of values, its staged
    queries, the slots of the two rings, the block-scaled queries, and the six load semaphores at zero. -/
def localBufs (c : Dev nD) : sProp 𝕄 := iprop(
     ((Memref.whole main_arg1).view.loc (c : Thread nD τ) ↦[Finset.univ]{fullShare} m ((c : Thread nD τ).loc main_arg1))
     ∗ ((Memref.whole main_arg2).view.loc (c : Thread nD τ) ↦[Finset.univ]{fullShare} m ((c : Thread nD τ).loc main_arg2))
     ∗ ((Memref.whole cc0_stg0_0).view.loc (c : Thread nD τ) ↦[Finset.univ]{fullShare} qStg m c)
     ∗ (∃ f, (kS 0).view.loc (c : Thread nD τ) ↦[(kS 0).view.set]{fullShare} f)
     ∗ (∃ f, (kS 1).view.loc (c : Thread nD τ) ↦[(kS 1).view.set]{fullShare} f)
     ∗ (∃ f, (kS 2).view.loc (c : Thread nD τ) ↦[(kS 2).view.set]{fullShare} f)
     ∗ (∃ f, (vS 0).view.loc (c : Thread nD τ) ↦[(vS 0).view.set]{fullShare} f)
     ∗ (∃ f, (vS 1).view.loc (c : Thread nD τ) ↦[(vS 1).view.set]{fullShare} f)
     ∗ (∃ f, (vS 2).view.loc (c : Thread nD τ) ↦[(vS 2).view.set]{fullShare} f)
     ∗ (∃ f, (Memref.whole cc0_scratch2).view.loc (c : Thread nD τ) ↦[Finset.univ]{fullShare} f)
     ∗ (semVal ((c : Thread nD τ), .dma (2 : Fin 18)) 0) ∗ (semVal ((c : Thread nD τ), .dma (3 : Fin 18)) 0)
     ∗ (semVal ((c : Thread nD τ), .dma (4 : Fin 18)) 0) ∗ (semVal ((c : Thread nD τ), .dma (5 : Fin 18)) 0)
     ∗ (semVal ((c : Thread nD τ), .dma (6 : Fin 18)) 0) ∗ (semVal ((c : Thread nD τ), .dma (7 : Fin 18)) 0))

/-- The protocol state of device `c`: its position at each of its cells, the tokens of the duties it pays, and the
    credits of the units it is owed. -/
def ghost (c : Dev nD) : sProp 𝕄 := iprop(
    (atPos ER (kcell c 0) 0 ∅ 0 ∗ atPos ER (kcell c 1) 0 ∅ 0 ∗ atPos ER (kcell c 2) 0 ∅ 0 ∗ atPos ER (kcell c 3) 0 ∅ 0 ∗ atPos ER (kcell c 4) 0 ∅ 0
      ∗ atPos ER (kcell c 5) 0 ∅ 0 ∗ atPos ER (kcell c 6) 0 ∅ 0 ∗ atPos ER (kcell c 7) 0 ∅ 0 ∗ atPos ER (kcell c 8) 0 ∅ 0 ∗ atPos ER (kcell c 9) 0 ∅ 0 ∗ atPos ER (kcell c 10) 0 ∅ 0)
    ∗ (dutyTok ER (kcell (pt 0 c) 0) 0 0 ∗ dutyTok ER (kcell (pt 1 c) 0) 0 1 ∗ dutyTok ER (kcell (pt 2 c) 0) 0 2 ∗ dutyTok ER (kcell (pt 3 c) 0) 0 3)
    ∗ (dutyTok ER (kcell c 1) 0 0 ∗ dutyTok ER (kcell c 2) 0 0 ∗ dutyTok ER (kcell c 5) 0 0 ∗ dutyTok ER (kcell c 6) 0 0 ∗ dutyTok ER (kcell c 7) 0 0)
    ∗ (dutyTok ER (kcell (pt 0 c) 3) 0 0 ∗ dutyTok ER (kcell (pt 0 c) 4) 0 0 ∗ dutyTok ER (kcell (pt 1 c) 8) 0 0 ∗ dutyTok ER (kcell (pt 2 c) 9) 0 0 ∗ dutyTok ER (kcell (pt 3 c) 10) 0 0)
    ∗ (cred (tallyAt (kcell c 0) () 4) ∗ cred (tallyAt (kcell c 3) () No) ∗ cred (tallyAt (kcell c 4) () Nm)
      ∗ cred (tallyAt (kcell c 8) () Ng) ∗ cred (tallyAt (kcell c 9) () Ng) ∗ cred (tallyAt (kcell c 10) () Ng)))

/-- The exchange buffers of device `c`, the gathering buffer cut into its four blocks. -/
def sendBufs (c : Dev nD) : sProp 𝕄 := iprop(
    (∃ f, osM.view.loc (c : Thread nD τ) ↦[Finset.univ]{fullShare} f) ∗ (∃ f, msM.view.loc (c : Thread nD τ) ↦[Finset.univ]{fullShare} f)
    ∗ (someO c) ∗ (someM c) ∗ (someB c c) ∗ (someB c (pt 1 c)) ∗ (someB c (pt 2 c)) ∗ (someB c (pt 3 c)))

/-- The exchange buffers of device `c`, whole. -/
def keepBufs (c : Dev nD) : sProp 𝕄 := iprop(
    (∃ f, osM.view.loc (c : Thread nD τ) ↦[Finset.univ]{fullShare} f) ∗ (∃ f, msM.view.loc (c : Thread nD τ) ↦[Finset.univ]{fullShare} f)
    ∗ (someO c) ∗ (someM c) ∗ (∃ f, obM.view.loc (c : Thread nD τ) ↦[Finset.univ]{fullShare} f))

/-- The cells of device `c`, closed at zero. -/
def semsEnd (c : Dev nD) : sProp 𝕄 := iprop(
    semVal (kcell c 0) 0 ∗ semVal (kcell c 1) 0 ∗ semVal (kcell c 2) 0 ∗ semVal (kcell c 3) 0 ∗ semVal (kcell c 4) 0 ∗ semVal (kcell c 5) 0
      ∗ semVal (kcell c 6) 0 ∗ semVal (kcell c 7) 0 ∗ semVal (kcell c 8) 0 ∗ semVal (kcell c 9) 0 ∗ semVal (kcell c 10) 0)

/-- What the body leaves. -/
def bodyEnd (c : Dev nD) : sProp 𝕄 := iprop(
    localBufs m c ∗ keepBufs c ∗ semsEnd c ∗ (∃ W, owes (c : Thread nD τ) 0 W)
      ∗ ((Memref.whole cc0_stg1_0).view.loc (c : Thread nD τ) ↦[Finset.univ]{fullShare} outAt m c))

/-- A buffer cut into three sets: from the whole to the parts. -/
theorem cut_three {ℓ : Loc nD τ sig} (S : Fin 3 → Finset (Idx ℓ)) (hu : (Finset.univ : Finset (Idx ℓ)) = (Finset.univ : Finset (Fin 3)).biUnion S)
    (hd : ∀ i j, i ≠ j → Disjoint (S i) (S j)) :
    (iprop(∃ f : Buf (Elt F) ℓ, ℓ ↦[Finset.univ]{fullShare} f) : sProp 𝕄)
      ⊢ iprop((∃ f : Buf (Elt F) ℓ, ℓ ↦[S 0]{fullShare} f) ∗ (∃ f : Buf (Elt F) ℓ, ℓ ↦[S 1]{fullShare} f) ∗ (∃ f : Buf (Elt F) ℓ, ℓ ↦[S 2]{fullShare} f)) := by
  iintro ⟨%f, H⟩
  ihave H' := (show (ℓ ↦[Finset.univ]{fullShare} f : sProp 𝕄) ⊢ iprop((ℓ ↦[S 0]{fullShare} f) ∗ (ℓ ↦[S 1]{fullShare} f) ∗ (ℓ ↦[S 2]{fullShare} f)) from
    Entails.of_eq ((congrArg (fun s => (ℓ ↦[s]{fullShare} f : sProp 𝕄)) hu).trans ((pointsTo_biUnion _ S fun i _ j _ h => hd i j h).trans
    (bigSep_univ_eq_bigSepL [0, 1, 2] (by decide) (by decide) (fun t : Fin 3 => (ℓ ↦[S t]{fullShare} f : sProp 𝕄)))))) $$ H
  icases H' with ⟨H0, H1, H2⟩
  isplitl [H0]; · iexists f; iexact H0
  isplitl [H1]; · iexists f; iexact H1
  iexists f; iexact H2

/-- From the parts, each at its own contents, to the whole. -/
theorem join_three {ℓ : Loc nD τ sig} (S : Fin 3 → Finset (Idx ℓ)) (hu : (Finset.univ : Finset (Idx ℓ)) = (Finset.univ : Finset (Fin 3)).biUnion S)
    (hd : ∀ i j, i ≠ j → Disjoint (S i) (S j)) :
    (iprop((∃ f : Buf (Elt F) ℓ, ℓ ↦[S 0]{fullShare} f) ∗ (∃ f : Buf (Elt F) ℓ, ℓ ↦[S 1]{fullShare} f) ∗ (∃ f : Buf (Elt F) ℓ, ℓ ↦[S 2]{fullShare} f)) : sProp 𝕄)
      ⊢ iprop(∃ f : Buf (Elt F) ℓ, ℓ ↦[Finset.univ]{fullShare} f) := by
  iintro ⟨⟨%f0, H0⟩, ⟨%f1, H1⟩, ⟨%f2, H2⟩⟩
  ihave H := (show (iprop((ℓ ↦[S 0]{fullShare} f0) ∗ (ℓ ↦[S 1]{fullShare} f1) ∗ (ℓ ↦[S 2]{fullShare} f2)) : sProp 𝕄) ⊢ _ from
    (Entails.of_eq (bigSep_univ_eq_bigSepL [0, 1, 2] (by decide) (by decide) (fun t : Fin 3 => (ℓ ↦[S t]{fullShare} ((![f0, f1, f2] : Fin 3 → Buf (Elt F) ℓ) t) : sProp 𝕄))).symm).trans
      (pointsTo_biUnion_join _ S _ f0 fun i _ j _ h => hd i j h)) $$ [H0 H1 H2]
  · isplitl [H0]; · iexact H0
    isplitl [H1]; · iexact H1
    iexact H2
  icases H with ⟨%g, -, H⟩
  iexists g
  rw [hu]; iexact H

theorem mem_slot (s : Fin 3) (j : S3x4096x128.Idx) : j ∈ (Rect.unit (s := S3x4096x128) ![s.val, 0, 0] S1x4096x128.size (slot_inb s)).set ↔ (j 0).val = s.val := by
  rw [Rect.mem_set_unit]
  have h1 : (j 1).val < 4096 := (j 1).isLt
  have h2 : (j 2).val < 128 := (j 2).isLt
  constructor
  · intro h
    have h0 : s.val ≤ (j 0).val ∧ (j 0).val < s.val + 1 := h 0
    omega
  · intro h a
    match a with
    | 0 => show s.val ≤ (j 0).val ∧ (j 0).val < s.val + 1; omega
    | 1 => show 0 ≤ (j 1).val ∧ (j 1).val < 0 + 4096; omega
    | 2 => show 0 ≤ (j 2).val ∧ (j 2).val < 0 + 128; omega

/-- An element is in a slot when its first coordinate names it. -/
theorem mem_kS (s : Fin 3) (j : S3x4096x128.Idx) : j ∈ (kS s).view.set ↔ (j 0).val = s.val := by
  have e : (kS s).view.set = (Rect.unit (s := S3x4096x128) ![s.val, 0, 0] S1x4096x128.size (slot_inb s)).set :=
    (View.set_reshape _ _).trans (View.set_slice_whole cc0_scratch0 _)
  rw [e]; exact mem_slot s j
theorem mem_vS (s : Fin 3) (j : S3x4096x128.Idx) : j ∈ (vS s).view.set ↔ (j 0).val = s.val := by
  have e : (vS s).view.set = (Rect.unit (s := S3x4096x128) ![s.val, 0, 0] S1x4096x128.size (slot_inb s)).set :=
    (View.set_reshape _ _).trans (View.set_slice_whole cc0_scratch1 _)
  rw [e]; exact mem_slot s j

theorem slots_univ (S : Fin 3 → Finset S3x4096x128.Idx) (h : ∀ s j, j ∈ S s ↔ (j 0).val = s.val) :
    (Finset.univ : Finset S3x4096x128.Idx) = (Finset.univ : Finset (Fin 3)).biUnion S := by
  ext j
  simp only [Finset.mem_univ, Finset.mem_biUnion, true_and, true_iff]
  exact ⟨j 0, (h _ j).mpr rfl⟩
theorem slots_disjoint (S : Fin 3 → Finset S3x4096x128.Idx) (h : ∀ s j, j ∈ S s ↔ (j 0).val = s.val) (a b : Fin 3) (hab : a ≠ b) : Disjoint (S a) (S b) :=
  Finset.disjoint_left.mpr fun j hj hj' => hab (Fin.ext (((h _ j).mp hj).symm.trans ((h _ j).mp hj')))

/-- The exchange buffers, the gathering one cut into its blocks. -/
theorem keep_send (c : Dev nD) : (keepBufs (F := F) c : sProp 𝕄) ⊢ sendBufs c := by
  unfold keepBufs sendBufs
  iintro ⟨Ho, Hm, Hor, Hmr, ⟨%f, Hob⟩⟩
  ihave Hob := (Entails.of_eq (ob_split c f)) $$ Hob
  icases Hob with ⟨H0, H1, H2, H3⟩
  isplitl [Ho]; · iexact Ho
  isplitl [Hm]; · iexact Hm
  isplitl [Hor]; · iexact Hor
  isplitl [Hmr]; · iexact Hmr
  unfold someB
  isplitl [H0]; · iexists f; iexact H0
  isplitl [H1]; · iexists f; iexact H1
  isplitl [H2]; · iexists f; iexact H2
  iexists f; iexact H3

end Cert.Decode
end
-- ==== Proof.Body.lean ====
module

public import proofs.«01_k».proof.Proof.Steps
public import proofs.«01_k».proof.Proof.Bufs

/-!
# One device's body

The whole kernel body at a symbolic device: the handshake with the four partners, the eight chunks of keys and values,
the exchange of the two halves, the merge, the three gathers, the result.
-/

@[expose] public section
noncomputable section
namespace Cert.Decode
open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
local notation "𝕄" => MT nD τ sig Unit (Elt F) ℕ UU ℕ
variable (m : (ℓ : Loc nD τ sig) → Buf (Elt F) ℓ) (ρ : Dev nD → PrngReg)
variable (K : Dev nD × Fin 11 → ℕ)

theorem os_set (c : Dev nD) (f : Buf (Elt F) (osM.view.loc (c : Thread nD τ))) :
    (osM.view.loc (c : Thread nD τ) ↦[Finset.univ]{fullShare} f : sProp 𝕄) = (osM.view.loc (c : Thread nD τ) ↦[osM.view.set]{fullShare} f) := by
  rw [show osM.view.set = Finset.univ from View.set_whole _]
theorem ms_set (c : Dev nD) (f : Buf (Elt F) (msM.view.loc (c : Thread nD τ))) :
    (msM.view.loc (c : Thread nD τ) ↦[Finset.univ]{fullShare} f : sProp 𝕄) = (msM.view.loc (c : Thread nD τ) ↦[msM.view.set]{fullShare} f) := by
  rw [show msM.view.set = Finset.univ from View.set_whole _]

theorem someB_elim (c d : Dev nD) : (someB (F := F) c d : sProp 𝕄) ⊢ ∃ f, (obS d).view.loc (c : Thread nD τ) ↦[(obS d).view.set]{fullShare} f := by
  unfold someB; exact BIBase.Entails.refl
theorem rows_join (c : Dev nD) : iprop((pay m c 5 0 ∗ pay m c 6 0 ∗ pay m c 7 0) ∗ pay m c 8 0 ∗ pay m c 9 0 ∗ pay m c 10 0)
    ⊢ ((Memref.whole cc0_scratch7).view.loc (c : Thread nD τ) ↦[Finset.univ]{fullShare} obFinal m c) := by
  show iprop((rowPts m c c (gsh 0) ∗ rowPts m c c (gsh 1) ∗ rowPts m c c (gsh 2)) ∗ rowPts m c (pt 1 c) fullShare ∗ rowPts m c (pt 2 c) fullShare ∗ rowPts m c (pt 3 c) fullShare) ⊢ _
  refine (sep_mono (row_shares m c).2 BIBase.Entails.refl).trans ?_
  unfold rowPts
  exact Entails.of_eq (ob_split c (obFinal m c)).symm

theorem pay_1 (c : Dev nD) : pay m c 1 0 = ((Memref.whole cc0_scratch3).view.loc (c : Thread nD τ) ↦[Finset.univ]{fullShare} (oSend m c : Buf (Elt F) (osM.view.loc (c : Thread nD τ)))) := by
  refine (show pay m c 1 0 = oPts m c from rfl).trans ?_
  unfold oPts
  exact congrArg (fun S => ((osM.view.loc (c : Thread nD τ)) ↦[S]{fullShare} _ : sProp 𝕄)) (show osM.view.set = Finset.univ from View.set_whole _)
theorem pay_2 (c : Dev nD) : pay m c 2 0 = ((Memref.whole cc0_scratch5).view.loc (c : Thread nD τ) ↦[Finset.univ]{fullShare} (mlSend m c : Buf (Elt F) (msM.view.loc (c : Thread nD τ)))) := by
  refine (show pay m c 2 0 = mPts m c from rfl).trans ?_
  unfold mPts
  exact congrArg (fun S => ((msM.view.loc (c : Thread nD τ)) ↦[S]{fullShare} _ : sProp 𝕄)) (show msM.view.set = Finset.univ from View.set_whole _)
theorem pay_3 (c : Dev nD) : pay m c 3 0 = ((Memref.whole cc0_scratch4).view.loc (c : Thread nD τ) ↦[Finset.univ]{fullShare} (oSend m (pt 0 c) : Buf (Elt F) (orM.view.loc (c : Thread nD τ)))) := by
  refine (show pay m c 3 0 = oIn m c from rfl).trans ?_
  unfold oIn
  exact congrArg (fun S => ((orM.view.loc (c : Thread nD τ)) ↦[S]{fullShare} _ : sProp 𝕄)) (show orM.view.set = Finset.univ from View.set_whole _)
theorem pay_4 (c : Dev nD) : pay m c 4 0 = ((Memref.whole cc0_scratch6).view.loc (c : Thread nD τ) ↦[Finset.univ]{fullShare} (mlSend m (pt 0 c) : Buf (Elt F) (mrM.view.loc (c : Thread nD τ)))) := by
  refine (show pay m c 4 0 = mIn m c from rfl).trans ?_
  unfold mIn
  exact congrArg (fun S => ((mrM.view.loc (c : Thread nD τ)) ↦[S]{fullShare} _ : sProp 𝕄)) (show mrM.view.set = Finset.univ from View.set_whole _)

theorem os_writes (f : osM.view.ty.Contents (Elt F)) (w : S256x128.Idx → Elt F .bf16) (x : Vec F S256x128 .bf16) (h : w = x) :
    osM.view.writes (Elt F) f [⟨Rect.unit (s := S256x128) ![0, 0] S256x128.size inb_S256x128_S256x128_0_0, w⟩] = x := by
  subst h
  refine (View.read_whole cc0_scratch3 _).symm.trans ?_
  funext y
  exact View.read_writes_cons_unit_of_mem osM.view _ _ _ _ y y rfl (Fin.forall_fin_two.mpr ⟨(Nat.zero_add _).symm, (Nat.zero_add _).symm⟩)

theorem some_O (c : Dev nD) (f : Buf (Elt F) (orM.view.loc (c : Thread nD τ))) :
    ((Memref.whole cc0_scratch4).view.loc (c : Thread nD τ) ↦[Finset.univ]{fullShare} f : sProp 𝕄) ⊢ someO c := by
  refine (Entails.of_eq (congrArg (fun S => ((orM.view.loc (c : Thread nD τ)) ↦[S]{fullShare} f : sProp 𝕄)) (show orM.view.set = Finset.univ from View.set_whole _).symm)).trans ?_
  unfold someO
  iintro H; iexists f; iexact H
theorem some_M (c : Dev nD) (f : Buf (Elt F) (mrM.view.loc (c : Thread nD τ))) :
    ((Memref.whole cc0_scratch6).view.loc (c : Thread nD τ) ↦[Finset.univ]{fullShare} f : sProp 𝕄) ⊢ someM c := by
  refine (Entails.of_eq (congrArg (fun S => ((mrM.view.loc (c : Thread nD τ)) ↦[S]{fullShare} f : sProp 𝕄)) (show mrM.view.set = Finset.univ from View.set_whole _).symm)).trans ?_
  unfold someM
  iintro H; iexists f; iexact H

theorem out_done (c : Dev nD) (f : (Memref.whole cc0_stg1_0).view.ty.Contents (Elt F)) :
    ((Memref.whole cc0_stg1_0).view.loc (c : Thread nD τ) ↦[Finset.univ]{fullShare} ((Memref.whole cc0_stg1_0).view.writes (Elt F) f [⟨Rect.unit (s := S4x256x128) ![0, 0, 0] S4x256x128.size inb_S4x256x128_S4x256x128_0_0_0,
      k0_pay1 ((Memref.whole cc0_scratch7).view.readAt (Elt F) (Rect.unit (s := S4x256x128) ![0, 0, 0] S4x256x128.size inb_S4x256x128_S4x256x128_0_0_0).toLoadRect (obFinal m c))⟩]) : sProp 𝕄)
      ⊢ ((Memref.whole cc0_stg1_0).view.loc (c : Thread nD τ) ↦[Finset.univ]{fullShare} outAt m c) := by
  have hr : (Memref.whole cc0_scratch7).view.readAt (Elt F) (Rect.unit (s := S4x256x128) ![0, 0, 0] S4x256x128.size inb_S4x256x128_S4x256x128_0_0_0).toLoadRect (obFinal m c) = obFinal m c :=
    Memref.readAt_unit_zero (Elt F) cc0_scratch7 (off := ![0, 0, 0]) (by funext a; revert a; decide) _ _
  rw [hr]
  refine Entails.of_eq (congrArg (fun z => ((Memref.whole cc0_stg1_0).view.loc (c : Thread nD τ) ↦[Finset.univ]{fullShare} z : sProp 𝕄)) ?_)
  refine (View.read_whole cc0_stg1_0 _).symm.trans ?_
  funext y
  exact View.read_writes_cons_unit_of_mem (Memref.whole cc0_stg1_0).view _ _ _ _ y y rfl (by intro a; fin_cases a <;> exact (Nat.zero_add _).symm)

set_option maxHeartbeats 2000000 in
/-- The body, executed in program order. -/
theorem sound_body (c : Dev nD) (W : Waits sig Unit) (Kt : PUnit → sProp 𝕄) :
    iprop(records m K ∗ levAts L lv ∗ ghost c ∗ localBufs m c ∗ sendBufs c ∗ owes (c : Thread nD τ) (O₀ c) W
       ∗ (∃ f, (Memref.whole cc0_stg1_0).view.loc (c : Thread nD τ) ↦[Finset.univ]{fullShare} f) ∗ (bodyEnd m c -∗ Kt ⟨⟩))
      ⊢ wp frame (wpE (defs₀ (F := F)) Variants.none c none) Set.univ
          (cc0_body (F := F) (Memref.whole cc0_stg0_0) (Memref.isWhole_whole _) (Memref.whole main_arg1) (Memref.isWhole_whole _) (Memref.whole main_arg2) (Memref.isWhole_whole _) (Memref.whole cc0_stg1_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _)
            cc0_scratch8 cc0_scratch9 cc0_scratch10 cc0_scratch11 cc0_scratch12) Kt := by
  have hmw : ∀ q : Fin 18, q.val < 8 → ((levAts L lv : sProp 𝕄) ⊢ MayWait (c : Thread nD τ) (.dma q) () (O₁ c)) := fun q hq =>
    mayWait_of c _ 2 _ (above_O₁ c) (by dsimp only [kind]; rw [dif_neg (by omega)]; decide)
  have e1 := dev1_eq c
  have e2 := dev2_eq c
  have e3 := dev3_eq c
  have e4 := dev4_eq c
  unfold localBufs ghost sendBufs
  iintro ⟨#HR, #Hlev, ⟨⟨Ha0, Ha1, Ha2, Ha3, Ha4, Ha5, Ha6, Ha7, Ha8, Ha9, Ha10⟩, ⟨Hb0, Hb1, Hb2, Hb3⟩, ⟨Ht1, Ht2, Ht5, Ht6, Ht7⟩, ⟨Ht3, Ht4, Ht8, Ht9, Ht10⟩, ⟨Hc0, Hc3, Hc4, Hc8, Hc9, Hc10⟩⟩,
    ⟨HK, HV, HQ, ⟨%fk0, Hk0⟩, ⟨%fk1, Hk1⟩, ⟨%fk2, Hk2⟩, ⟨%fv0, Hv0⟩, ⟨%fv1, Hv1⟩, ⟨%fv2, Hv2⟩, ⟨%fq, Hq⟩, s2, s3, s4, s5, s6, s7⟩,
    ⟨⟨%fos, Hos⟩, ⟨%fms, Hms⟩, Hor, Hmr, Hob, Hob1, Hob2, Hob3⟩, HO, ⟨%fout, Hout⟩, Hend⟩
  sl_exec
  iapply (wp_sig m K c (B₃ c) _ 0 _ (dev1_eq c) rfl) $$ [HO Hb0 Hor Hmr]
  · isplitr; · iexact HR
    isplitl [HO]; · iexact HO
    isplitl [Hb0]; · iexact Hb0
    unfold give; rw [if_pos rfl]
    isplitl [Hor]; · iexact Hor
    iexact Hmr
  iintro HO
  sl_exec
  iapply (wp_sig m K c (B₂ c) _ 1 _ (dev2_eq c) rfl) $$ [HO Hb1 Hob1]
  · isplitr; · iexact HR
    isplitl [HO]; · iexact HO
    isplitl [Hb1]; · iexact Hb1
    unfold give; rw [if_neg (by decide)]
    iexact Hob1
  iintro HO
  sl_exec
  iapply (wp_sig m K c (B₁ c) _ 2 _ (dev3_eq c) rfl) $$ [HO Hb2 Hob2]
  · isplitr; · iexact HR
    isplitl [HO]; · iexact HO
    isplitl [Hb2]; · iexact Hb2
    unfold give; rw [if_neg (by decide)]
    iexact Hob2
  iintro HO
  sl_exec
  iapply (wp_sig m K c (O₁ c) _ 3 _ (dev4_eq c) rfl) $$ [HO Hb3 Hob3]
  · isplitr; · iexact HR
    isplitl [HO]; · iexact HO
    isplitl [Hb3]; · iexact Hb3
    unfold give; rw [if_neg (by decide)]
    iexact Hob3
  iintro HO
  sl_exec
  iapply (wp_bar m K c (O₁ c) _ (above_O₁ c)) $$ [HO Hc0 Ha0]
  · isplitr; · iexact HR
    isplitr; · iexact Hlev
    isplitl [Hc0]; · iexact Hc0
    isplitl [HO]; · iexact HO
    iexact Ha0
  iintro ⟨HO, Hz0, ⟨Hpo, Hpm⟩, Hpb1, Hpb2, Hpb3⟩
  sl_exec

  have hk0 : sound_body.sl.v226 m c = kBlk m c 0 := (kslot_read 0 _ _ _ _ _ _).trans (kBlk_eq m c 0 _ _ (k0_off1_eq c))
  have hv0 : sound_body.sl.v246 m c = vBlk m c 0 := (vslot_read 0 _ _ _ _ _ _).trans (vBlk_eq m c 0 _ _ (k0_off1_eq c))
  have hk1 : sound_body.sl.v278 m c = kBlk m c 1 := (kslot_read 1 _ _ _ _ _ _).trans (kBlk_eq m c 1 _ _ (k0_off2_eq c))
  have hv1 : sound_body.sl.v298 m c = vBlk m c 1 := (vslot_read 1 _ _ _ _ _ _).trans (vBlk_eq m c 1 _ _ (k0_off2_eq c))
  have hk2 : sound_body.sl.v330 m c = kBlk m c 2 := (kslot_read 2 _ _ _ _ _ _).trans (kBlk_eq m c 2 _ _ (k0_off11_eq c))
  have hv2 : sound_body.sl.v350 m c = vBlk m c 2 := (vslot_read 2 _ _ _ _ _ _).trans (vBlk_eq m c 2 _ _ (k0_off11_eq c))
  have hk3 : sound_body.sl.v382 m c = kBlk m c 3 := (kslot_read 0 _ _ _ _ _ _).trans (kBlk_eq m c 3 _ _ (k0_off12_eq c))
  have hv3 : sound_body.sl.v402 m c = vBlk m c 3 := (vslot_read 0 _ _ _ _ _ _).trans (vBlk_eq m c 3 _ _ (k0_off12_eq c))
  have hk4 : sound_body.sl.v434 m c = kBlk m c 4 := (kslot_read 1 _ _ _ _ _ _).trans (kBlk_eq m c 4 _ _ (k0_off13_eq c))
  have hv4 : sound_body.sl.v454 m c = vBlk m c 4 := (vslot_read 1 _ _ _ _ _ _).trans (vBlk_eq m c 4 _ _ (k0_off13_eq c))
  have hk5 : sound_body.sl.v486 m c = kBlk m c 5 := (kslot_read 2 _ _ _ _ _ _).trans (kBlk_eq m c 5 _ _ (k0_off14_eq c))
  have hv5 : sound_body.sl.v506 m c = vBlk m c 5 := (vslot_read 2 _ _ _ _ _ _).trans (vBlk_eq m c 5 _ _ (k0_off14_eq c))
  have hk6 : sound_body.sl.v526 m c = kBlk m c 6 := (kslot_read 0 _ _ _ _ _ _).trans (kBlk_eq m c 6 _ _ (k0_off15_eq c))
  have hv6 : sound_body.sl.v546 m c = vBlk m c 6 := (vslot_read 0 _ _ _ _ _ _).trans (vBlk_eq m c 6 _ _ (k0_off15_eq c))
  have hk7 : sound_body.sl.v566 m c = kBlk m c 7 := (kslot_read 1 _ _ _ _ _ _).trans (kBlk_eq m c 7 _ _ (k0_off16_eq c))
  have hv7 : sound_body.sl.v586 m c = vBlk m c 7 := (vslot_read 1 _ _ _ _ _ _).trans (vBlk_eq m c 7 _ _ (k0_off16_eq c))
  have hs0 : ((sound_body.sl.v235 m c, sound_body.sl.v244 m c, sound_body.sl.v253 m c) : St F) = stepSt (sound_body.sl.v229 m c) (sound_body.sl.v226 m c) (sound_body.sl.v246 m c) ((k0_pay14 (F := F), k0_pay15 (F := F), k0_pay16 (F := F)) : St F) := rfl
  have hs1 : ((sound_body.sl.v287 m c, sound_body.sl.v296 m c, sound_body.sl.v305 m c) : St F) = stepSt (sound_body.sl.v229 m c) (sound_body.sl.v278 m c) (sound_body.sl.v298 m c) ((sound_body.sl.v235 m c, sound_body.sl.v244 m c, sound_body.sl.v253 m c) : St F) := rfl
  have hs2 : ((sound_body.sl.v339 m c, sound_body.sl.v348 m c, sound_body.sl.v357 m c) : St F) = stepSt (sound_body.sl.v229 m c) (sound_body.sl.v330 m c) (sound_body.sl.v350 m c) ((sound_body.sl.v287 m c, sound_body.sl.v296 m c, sound_body.sl.v305 m c) : St F) := rfl
  have hs3 : ((sound_body.sl.v391 m c, sound_body.sl.v400 m c, sound_body.sl.v409 m c) : St F) = stepSt (sound_body.sl.v229 m c) (sound_body.sl.v382 m c) (sound_body.sl.v402 m c) ((sound_body.sl.v339 m c, sound_body.sl.v348 m c, sound_body.sl.v357 m c) : St F) := rfl
  have hs4 : ((sound_body.sl.v443 m c, sound_body.sl.v452 m c, sound_body.sl.v461 m c) : St F) = stepSt (sound_body.sl.v229 m c) (sound_body.sl.v434 m c) (sound_body.sl.v454 m c) ((sound_body.sl.v391 m c, sound_body.sl.v400 m c, sound_body.sl.v409 m c) : St F) := rfl
  have hs5 : ((sound_body.sl.v495 m c, sound_body.sl.v504 m c, sound_body.sl.v513 m c) : St F) = stepSt (sound_body.sl.v229 m c) (sound_body.sl.v486 m c) (sound_body.sl.v506 m c) ((sound_body.sl.v443 m c, sound_body.sl.v452 m c, sound_body.sl.v461 m c) : St F) := rfl
  have hs6 : ((sound_body.sl.v535 m c, sound_body.sl.v544 m c, sound_body.sl.v553 m c) : St F) = stepSt (sound_body.sl.v229 m c) (sound_body.sl.v526 m c) (sound_body.sl.v546 m c) ((sound_body.sl.v495 m c, sound_body.sl.v504 m c, sound_body.sl.v513 m c) : St F) := rfl
  have hs7 : ((sound_body.sl.v575 m c, sound_body.sl.v584 m c, sound_body.sl.v593 m c) : St F) = stepSt (sound_body.sl.v229 m c) (sound_body.sl.v566 m c) (sound_body.sl.v586 m c) ((sound_body.sl.v535 m c, sound_body.sl.v544 m c, sound_body.sl.v553 m c) : St F) := rfl
  have hq : sound_body.sl.v229 m c = qcat m c :=
    (Memref.readAt_unit_zero (Elt F) cc0_scratch2 (by funext a; revert a; decide) _ _).trans ((View.read_whole _ _).symm.trans
      (qcat_read m c _ _ _ _ _ _ _ _ _ (congrArg k0_pay2 (qHead_eq m c 0 _ _ (k0_off3_eq c))) (congrArg k0_pay2 (qHead_eq m c 1 _ _ (k0_off4_eq c)))
        (congrArg k0_pay2 (qHead_eq m c 2 _ _ (k0_off5_eq c))) (congrArg k0_pay2 (qHead_eq m c 3 _ _ (k0_off6_eq c))) (congrArg k0_pay2 (qHead_eq m c 4 _ _ (k0_off7_eq c)))
        (congrArg k0_pay2 (qHead_eq m c 5 _ _ (k0_off8_eq c))) (congrArg k0_pay2 (qHead_eq m c 6 _ _ (k0_off9_eq c))) (congrArg k0_pay2 (qHead_eq m c 7 _ _ (k0_off10_eq c)))))
  have hst : ((sound_body.sl.v575 m c, sound_body.sl.v584 m c, sound_body.sl.v593 m c) : St F) = fin8 m c := by
    rw [hs7, hs6, hs5, hs4, hs3, hs2, hs1, hs0, hq, hk0, hk1, hk2, hk3, hk4, hk5, hk6, hk7, hv0, hv1, hv2, hv3, hv4, hv5, hv6, hv7]; rfl
  have hm8 : sound_body.sl.v575 m c = (fin8 m c).1 := congrArg (·.1) hst
  have hl8 : sound_body.sl.v584 m c = (fin8 m c).2.1 := congrArg (·.2.1) hst
  have ho8 : sound_body.sl.v593 m c = (fin8 m c).2.2 := congrArg (·.2.2) hst

  have hos : osM.view.writes (Elt F) fos [⟨Rect.unit (s := S256x128) ![0, 0] S256x128.size inb_S256x128_S256x128_0_0, sound_body.sl.v597 m c⟩] = oSend m c := os_writes _ _ _ (by
    show shapeCast S256x128 (truncf .bf16 (sound_body.sl.v593 m c) bitsLt_bf16_f32) shapeCasts_S256x128_S256x128 = _
    rw [ho8, shapeCast_id]; rfl)
  have hms : msM.view.writes (Elt F) fms [⟨Rect.unit (s := S256x2) ![0, 1] S256x1.size inb_S256x2_S256x1_0_1, sound_body.sl.v605 m c⟩,
      ⟨Rect.unit (s := S256x2) ![0, 0] S256x1.size inb_S256x2_S256x1_0_0, sound_body.sl.v601 m c⟩] = mlSend m c := by
    refine (ml_writes _ _ _).trans ?_
    have h1 : sound_body.sl.v601 m c = mCol m c := by
      show shapeCast S256x1 (transpose S256x1 [1, 0] (sound_body.sl.v575 m c) transposes_S1x256_p1_0_S256x1) shapeCasts_S256x1_S256x1 = _
      rw [hm8, shapeCast_id]; rfl
    have h2 : sound_body.sl.v605 m c = lCol m c := by
      show shapeCast S256x1 (transpose S256x1 [1, 0] (sound_body.sl.v584 m c) transposes_S1x256_p1_0_S256x1) shapeCasts_S256x1_S256x1 = _
      rw [hl8, shapeCast_id]; rfl
    rw [h1, h2]; rfl
  rw [hos, hms]
  ihave Hos := (Entails.of_eq (os_set (F := F) c _)) $$ Hos
  ihave Hms := (Entails.of_eq (ms_set (F := F) c _)) $$ Hms
  iapply (copy_o m K c _ _ (dev5_eq c) rfl rfl) $$ [Hos Hpo HO Ht1 Ht3]
  · isplitr; · iexact HR
    isplitl [Hos]; · unfold oPts; iexact Hos
    isplitl [Hpo]; · iexact Hpo
    isplitl [HO]; · iexact HO
    isplitl [Ht1]; · iexact Ht1
    iexact Ht3
  iintro ⟨Hc1, HO⟩
  sl_exec
  iapply (copy_m m K c _ _ (dev6_eq c) rfl rfl) $$ [Hms Hpm HO Ht2 Ht4]
  · isplitr; · iexact HR
    isplitl [Hms]; · unfold mPts; iexact Hms
    isplitl [Hpm]; · iexact Hpm
    isplitl [HO]; · iexact HO
    isplitl [Ht2]; · iexact Ht2
    iexact Ht4
  iintro ⟨Hc2, HO⟩
  sl_exec
  rw [amt_3.trans amt_1.symm, amt_4.trans amt_2.symm]
  iapply (wp_xfer m K c (O₃ c) _ 1 (by decide) (above_O₃ c) (by decide) rfl credit_1) $$ [HO Hc1 Ha1]
  · isplitr; · iexact HR
    isplitr; · iexact Hlev
    isplitl [Hc1]; · iexact Hc1
    isplitl [HO]; · iexact HO
    iexact Ha1
  iintro ⟨HO, Hz1, Hos⟩
  sl_exec
  rw [← amt_3, ← amt_4]
  iapply (wp_xfer m K c (O₃ c) _ 3 (by decide) (above_O₃ c) (by decide) rfl amt_3.symm) $$ [HO Hc3 Ha3]
  · isplitr; · iexact HR
    isplitr; · iexact Hlev
    isplitl [Hc3]; · iexact Hc3
    isplitl [HO]; · iexact HO
    iexact Ha3
  iintro ⟨HO, Hz3, Hor⟩
  sl_exec
  iapply (wp_xfer m K c (O₃ c) _ 2 (by decide) (above_O₃ c) (by decide) rfl credit_2) $$ [HO Hc2 Ha2]
  · isplitr; · iexact HR
    isplitr; · iexact Hlev
    isplitl [Hc2]; · iexact Hc2
    isplitl [HO]; · iexact HO
    iexact Ha2
  iintro ⟨HO, Hz2, Hms⟩
  sl_exec
  iapply (wp_xfer m K c (O₃ c) _ 4 (by decide) (above_O₃ c) (by decide) rfl amt_4.symm) $$ [HO Hc4 Ha4]
  · isplitr; · iexact HR
    isplitr; · iexact Hlev
    isplitl [Hc4]; · iexact Hc4
    isplitl [HO]; · iexact HO
    iexact Ha4
  iintro ⟨HO, Hz4, Hmr⟩
  ihave Hos := (Entails.of_eq (pay_1 m c)) $$ Hos
  ihave Hms := (Entails.of_eq (pay_2 m c)) $$ Hms
  ihave Hor := (Entails.of_eq (pay_3 m c)) $$ Hor
  ihave Hmr := (Entails.of_eq (pay_4 m c)) $$ Hmr
  ihave Hob := (someB_elim c c) $$ Hob
  icases Hob with ⟨%fob, Hob⟩
  sl_exec
  have hrow : sound_body.sl.v671 m c = k0_pay73 (merged m c) := by
    show k0_pay73 (k0_pay72 (sound_body.sl.v575 m c) (sound_body.sl.v584 m c) (sound_body.sl.v593 m c)
      ((Memref.whole cc0_scratch6).view.readAt (Elt F) (Rect.unit (s := S256x2) ![0, 0] S256x1.size inb_S256x2_S256x1_0_0).toLoadRect (mlSend m (pt 0 c) : Vec F S256x2 .f32))
      ((Memref.whole cc0_scratch6).view.readAt (Elt F) (Rect.unit (s := S256x2) ![0, 1] S256x1.size inb_S256x2_S256x1_0_1).toLoadRect (mlSend m (pt 0 c) : Vec F S256x2 .f32))
      ((Memref.whole cc0_scratch4).view.readAt (Elt F) (Rect.unit (s := S256x128) ![0, 0] S256x128.size inb_S256x128_S256x128_0_0).toLoadRect (oSend m (pt 0 c) : Vec F S256x128 .bf16))) = _
    rw [hm8, hl8, ho8, ml_col0, ml_col1]
    exact congrArg (fun z => k0_pay73 (k0_pay72 (fin8 m c).1 (fin8 m c).2.1 (fin8 m c).2.2 (mCol m (pt 0 c)) (lCol m (pt 0 c)) z))
      (Memref.readAt_unit_zero (Elt F) cc0_scratch4 (off := ![0, 0]) (by funext a; revert a; decide) _ _)
  ihave Hob := (row_filled m c fob (sound_body.sl.v671 m c) hrow (sound_body.sl.Hob_w1 m c fob) rfl) $$ Hob
  ihave ⟨Hg0, Hg1, Hg2⟩ := (row_shares m c).1 $$ Hob
  iapply (copy_g m K c (O₄ c) _ 1 (by decide) _ (dev7_eq c) rfl rfl rfl) $$ [HO Hg0 Hpb1 Ht5 Ht8]
  · isplitr; · iexact HR
    isplitl [Hg0]; · iexact Hg0
    isplitl [Hpb1]; · unfold someB; iexact Hpb1
    isplitl [HO]; · iexact HO
    isplitl [Ht5]; · iexact Ht5
    iexact Ht8
  iintro ⟨Hc5, HO⟩
  sl_exec
  iapply (copy_g m K c (O₅ c) _ 2 (by decide) _ (dev8_eq c) rfl rfl rfl) $$ [HO Hg1 Hpb2 Ht6 Ht9]
  · isplitr; · iexact HR
    isplitl [Hg1]; · iexact Hg1
    isplitl [Hpb2]; · unfold someB; iexact Hpb2
    isplitl [HO]; · iexact HO
    isplitl [Ht6]; · iexact Ht6
    iexact Ht9
  iintro ⟨Hc6, HO⟩
  sl_exec
  iapply (copy_g m K c 0 _ 3 (by decide) _ (dev9_eq c) rfl rfl (zero_add _).symm) $$ [HO Hg2 Hpb3 Ht7 Ht10]
  · isplitr; · iexact HR
    isplitl [Hg2]; · iexact Hg2
    isplitl [Hpb3]; · unfold someB; iexact Hpb3
    isplitl [HO]; · iexact HO
    isplitl [Ht7]; · iexact Ht7
    iexact Ht10
  iintro ⟨Hc7, HO⟩
  sl_exec
  iapply (wp_xfer m K c 0 _ 5 (by decide) (above_zero 9) (by decide) rfl (credit_g c 5 (by decide))) $$ [HO Hc5 Ha5]
  · isplitr; · iexact HR
    isplitr; · iexact Hlev
    isplitl [Hc5]; · iexact Hc5
    isplitl [HO]; · iexact HO
    iexact Ha5
  iintro ⟨HO, Hz5, Hr5⟩
  sl_exec
  iapply (wp_xfer m K c 0 _ 8 (by decide) (above_zero 9) (by decide) rfl (credit_g c 8 (by decide))) $$ [HO Hc8 Ha8]
  · isplitr; · iexact HR
    isplitr; · iexact Hlev
    isplitl [Hc8]; · iexact Hc8
    isplitl [HO]; · iexact HO
    iexact Ha8
  iintro ⟨HO, Hz8, Hr8⟩
  sl_exec
  iapply (wp_xfer m K c 0 _ 6 (by decide) (above_zero 9) (by decide) rfl (credit_g c 6 (by decide))) $$ [HO Hc6 Ha6]
  · isplitr; · iexact HR
    isplitr; · iexact Hlev
    isplitl [Hc6]; · iexact Hc6
    isplitl [HO]; · iexact HO
    iexact Ha6
  iintro ⟨HO, Hz6, Hr6⟩
  sl_exec
  iapply (wp_xfer m K c 0 _ 9 (by decide) (above_zero 9) (by decide) rfl (credit_g c 9 (by decide))) $$ [HO Hc9 Ha9]
  · isplitr; · iexact HR
    isplitr; · iexact Hlev
    isplitl [Hc9]; · iexact Hc9
    isplitl [HO]; · iexact HO
    iexact Ha9
  iintro ⟨HO, Hz9, Hr9⟩
  sl_exec
  iapply (wp_xfer m K c 0 _ 7 (by decide) (above_zero 9) (by decide) rfl (credit_g c 7 (by decide))) $$ [HO Hc7 Ha7]
  · isplitr; · iexact HR
    isplitr; · iexact Hlev
    isplitl [Hc7]; · iexact Hc7
    isplitl [HO]; · iexact HO
    iexact Ha7
  iintro ⟨HO, Hz7, Hr7⟩
  sl_exec
  iapply (wp_xfer m K c 0 _ 10 (by decide) (above_zero 9) (by decide) rfl (credit_g c 10 (by decide))) $$ [HO Hc10 Ha10]
  · isplitr; · iexact HR
    isplitr; · iexact Hlev
    isplitl [Hc10]; · iexact Hc10
    isplitl [HO]; · iexact HO
    iexact Ha10
  iintro ⟨HO, Hz10, Hr10⟩
  ihave Hob := (rows_join m c) $$ [Hr5 Hr6 Hr7 Hr8 Hr9 Hr10]
  · isplitl [Hr5 Hr6 Hr7]
    · isplitl [Hr5]; · iexact Hr5
      isplitl [Hr6]; · iexact Hr6
      iexact Hr7
    isplitl [Hr8]; · iexact Hr8
    isplitl [Hr9]; · iexact Hr9
    iexact Hr10
  sl_exec
  ihave Hout := (out_done m c fout) $$ Hout
  rw [wp_ret]; imodintro
  iapply Hend
  unfold bodyEnd localBufs keepBufs semsEnd
  isplitl [HK HV HQ Hk0 Hk1 Hk2 Hv0 Hv1 Hv2 Hq s2 s3 s4 s5 s6 s7]
  · isplitl [HK]; · iexact HK
    isplitl [HV]; · iexact HV
    isplitl [HQ]; · iexact HQ
    isplitl [Hk0]; · iexists _; iexact Hk0
    isplitl [Hk1]; · iexists _; iexact Hk1
    isplitl [Hk2]; · iexists _; iexact Hk2
    isplitl [Hv0]; · iexists _; iexact Hv0
    isplitl [Hv1]; · iexists _; iexact Hv1
    isplitl [Hv2]; · iexists _; iexact Hv2
    isplitl [Hq]; · iexists _; iexact Hq
    isplitl [s2]; · iexact s2
    isplitl [s3]; · iexact s3
    isplitl [s4]; · iexact s4
    isplitl [s5]; · iexact s5
    isplitl [s6]; · iexact s6
    iexact s7
  isplitl [Hos Hms Hor Hmr Hob]
  · isplitl [Hos]; · iexists _; iexact Hos
    isplitl [Hms]; · iexists _; iexact Hms
    isplitl [Hor]; · iapply (some_O c _) $$ Hor
    isplitl [Hmr]; · iapply (some_M c _) $$ Hmr
    iexists _; iexact Hob
  isplitl [Hz0 Hz1 Hz2 Hz3 Hz4 Hz5 Hz6 Hz7 Hz8 Hz9 Hz10]
  · isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    isplitl [Hz6]; · iexact Hz6
    isplitl [Hz7]; · iexact Hz7
    isplitl [Hz8]; · iexact Hz8
    isplitl [Hz9]; · iexact Hz9
    iexact Hz10
  isplitl [HO]; · iexists _; iexact HO
  iexact Hout
end Cert.Decode
end
-- ==== Proof.Point.lean ====
module

public import proofs.«01_k».proof.Proof.Body
public import proofs.«01_k».proof.Proof.Gen.KernelIdeal.Points

/-!
# The body as the pipeline calls it

What a device holds before and after its one point, and the body's obligation.
-/

@[expose] public section
noncomputable section
namespace Cert.Decode
open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
local notation "𝕄" => MT nD τ sig Unit (Elt F) ℕ UU ℕ
variable (m : (ℓ : Loc nD τ sig) → Buf (Elt F) ℓ) (ρ : Dev nD → PrngReg)

/-- The six load semaphores at zero. -/
def loadSems (c : Dev nD) : sProp 𝕄 := iprop(
     (semVal ((c : Thread nD τ), .dma (2 : Fin 18)) 0) ∗ (semVal ((c : Thread nD τ), .dma (3 : Fin 18)) 0)
     ∗ (semVal ((c : Thread nD τ), .dma (4 : Fin 18)) 0) ∗ (semVal ((c : Thread nD τ), .dma (5 : Fin 18)) 0)
     ∗ (semVal ((c : Thread nD τ), .dma (6 : Fin 18)) 0) ∗ (semVal ((c : Thread nD τ), .dma (7 : Fin 18)) 0))

/-- The device's blocks of the keys and the values, as launched. -/
def args (c : Dev nD) : sProp 𝕄 := iprop(
     ((Memref.whole main_arg1).view.loc (c : Thread nD τ) ↦[Finset.univ]{fullShare} m ((c : Thread nD τ).loc main_arg1))
     ∗ ((Memref.whole main_arg2).view.loc (c : Thread nD τ) ↦[Finset.univ]{fullShare} m ((c : Thread nD τ).loc main_arg2)))

/-- The kernel's scratch buffers, each whole. -/
def scratch (c : Dev nD) : sProp 𝕄 := iprop(
     (∃ f, (Memref.whole cc0_scratch0).view.loc (c : Thread nD τ) ↦[Finset.univ]{fullShare} f)
     ∗ (∃ f, (Memref.whole cc0_scratch1).view.loc (c : Thread nD τ) ↦[Finset.univ]{fullShare} f)
     ∗ (∃ f, (Memref.whole cc0_scratch2).view.loc (c : Thread nD τ) ↦[Finset.univ]{fullShare} f)
     ∗ (∃ f, osM.view.loc (c : Thread nD τ) ↦[Finset.univ]{fullShare} f)
     ∗ (∃ f, orM.view.loc (c : Thread nD τ) ↦[Finset.univ]{fullShare} f)
     ∗ (∃ f, msM.view.loc (c : Thread nD τ) ↦[Finset.univ]{fullShare} f)
     ∗ (∃ f, mrM.view.loc (c : Thread nD τ) ↦[Finset.univ]{fullShare} f)
     ∗ (∃ f, obM.view.loc (c : Thread nD τ) ↦[Finset.univ]{fullShare} f))

theorem scratch_eq (c : Dev nD) : (Pipeline.scopedRest (Ix := Unit) (Name := ℕ) (U := UU) (Lvl := ℕ) (Val := Elt F) cfg0.spec c : sProp 𝕄) = scratch c :=
  (scopedRest0_eq c).trans rfl

/-- The staged queries. -/
def qPts (c : Dev nD) : sProp 𝕄 := (Memref.whole cc0_stg0_0).view.loc (c : Thread nD τ) ↦[Finset.univ]{fullShare} qStg m c

theorem O_elim (c : Dev nD) : (someO (F := F) c : sProp 𝕄) ⊢ ∃ f, orM.view.loc (c : Thread nD τ) ↦[Finset.univ]{fullShare} f := by
  unfold someO
  rw [show orM.view.set = Finset.univ from View.set_whole _]
theorem M_elim (c : Dev nD) : (someM (F := F) c : sProp 𝕄) ⊢ ∃ f, mrM.view.loc (c : Thread nD τ) ↦[Finset.univ]{fullShare} f := by
  unfold someM
  rw [show mrM.view.set = Finset.univ from View.set_whole _]

/-- From the whole buffers to what the body takes. -/
theorem local_of (c : Dev nD) : iprop(args m c ∗ qPts m c ∗ scratch c ∗ loadSems c) ⊢ (iprop(localBufs m c ∗ sendBufs c) : sProp 𝕄) := by
  refine BIBase.Entails.trans ?_ (sep_mono_right (keep_send c))
  unfold args qPts scratch loadSems localBufs keepBufs
  iintro ⟨⟨HK, HV⟩, HQ, ⟨H0, H1, H2, H3, ⟨%f4, H4⟩, H5, ⟨%f6, H6⟩, H7⟩, s2, s3, s4, s5, s6, s7⟩
  ihave H0 := (cut_three (ℓ := (Memref.whole cc0_scratch0).view.loc (c : Thread nD τ)) (fun s => (kS s).view.set) (slots_univ _ mem_kS) (slots_disjoint _ mem_kS)) $$ H0
  icases H0 with ⟨Ha0, Ha1, Ha2⟩
  ihave H1 := (cut_three (ℓ := (Memref.whole cc0_scratch1).view.loc (c : Thread nD τ)) (fun s => (vS s).view.set) (slots_univ _ mem_vS) (slots_disjoint _ mem_vS)) $$ H1
  icases H1 with ⟨Hb0, Hb1, Hb2⟩
  isplitl [HK HV HQ Ha0 Ha1 Ha2 Hb0 Hb1 Hb2 H2 s2 s3 s4 s5 s6 s7]
  · isplitl [HK]; · iexact HK
    isplitl [HV]; · iexact HV
    isplitl [HQ]; · iexact HQ
    isplitl [Ha0]; · iexact Ha0
    isplitl [Ha1]; · iexact Ha1
    isplitl [Ha2]; · iexact Ha2
    isplitl [Hb0]; · iexact Hb0
    isplitl [Hb1]; · iexact Hb1
    isplitl [Hb2]; · iexact Hb2
    isplitl [H2]; · iexact H2
    isplitl [s2]; · iexact s2
    isplitl [s3]; · iexact s3
    isplitl [s4]; · iexact s4
    isplitl [s5]; · iexact s5
    isplitl [s6]; · iexact s6
    iexact s7
  isplitl [H3]; · iexact H3
  isplitl [H5]; · iexact H5
  isplitl [H4]; · iapply (some_O c f4) $$ H4
  isplitl [H6]; · iapply (some_M c f6) $$ H6
  iexact H7

/-- And back. -/
theorem local_to (c : Dev nD) : (iprop(localBufs m c ∗ keepBufs c) : sProp 𝕄) ⊢ iprop(args m c ∗ qPts m c ∗ scratch c ∗ loadSems c) := by
  unfold args qPts scratch loadSems localBufs keepBufs
  iintro ⟨⟨HK, HV, HQ, Ha0, Ha1, Ha2, Hb0, Hb1, Hb2, H2, s2, s3, s4, s5, s6, s7⟩, H3, H5, H4, H6, H7⟩
  ihave H0 := (join_three (ℓ := (Memref.whole cc0_scratch0).view.loc (c : Thread nD τ)) (fun s => (kS s).view.set) (slots_univ _ mem_kS) (slots_disjoint _ mem_kS)) $$ [Ha0 Ha1 Ha2]
  · isplitl [Ha0]; · iexact Ha0
    isplitl [Ha1]; · iexact Ha1
    iexact Ha2
  ihave H1 := (join_three (ℓ := (Memref.whole cc0_scratch1).view.loc (c : Thread nD τ)) (fun s => (vS s).view.set) (slots_univ _ mem_vS) (slots_disjoint _ mem_vS)) $$ [Hb0 Hb1 Hb2]
  · isplitl [Hb0]; · iexact Hb0
    isplitl [Hb1]; · iexact Hb1
    iexact Hb2
  isplitl [HK HV]
  · isplitl [HK]; · iexact HK
    iexact HV
  isplitl [HQ]; · iexact HQ
  isplitl [H0 H1 H2 H3 H4 H5 H6 H7]
  · isplitl [H0]; · iexact H0
    isplitl [H1]; · iexact H1
    isplitl [H2]; · iexact H2
    isplitl [H3]; · iexact H3
    isplitl [H4]; · iapply (O_elim c) $$ H4
    isplitl [H5]; · iexact H5
    isplitl [H6]; · iapply (M_elim c) $$ H6
    iexact H7
  isplitl [s2]; · iexact s2
  isplitl [s3]; · iexact s3
  isplitl [s4]; · iexact s4
  isplitl [s5]; · iexact s5
  isplitl [s6]; · iexact s6
  iexact s7

/-- What a device brings to the launch's region: the protocol, and what it holds outside the scratch buffers. -/
def start (c : Dev nD) : sProp 𝕄 := iprop((∃ K, records m K ∗ ghost c) ∗ levAts L lv ∗ loadSems c ∗ args m c)
def Φ₀ (c : Dev nD) : sProp 𝕄 := iprop(start m c ∗ scratch c)
/-- After the point: the arguments unchanged, the scratch buffers, the load semaphores and the closed cells at zero. -/
def Φ₁ (c : Dev nD) : sProp 𝕄 := iprop(args m c ∗ scratch c ∗ loadSems c ∗ semsEnd c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => qStg m c
    | ⟨1, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem stg_in (c : Dev nD) (b : Ref sig .tc) (X : b.ty.Contents (Elt F)) :
    (stg c b X : sProp 𝕄) ⊢ ((Memref.whole b).view.loc (c : Thread nD τ) ↦[Finset.univ]{fullShare} (X : Buf (Elt F) ((c : Thread nD τ).loc b))) := by
  unfold stg
  iintro ⟨%f, %h, H⟩
  subst h
  iexact H
theorem stg_out (c : Dev nD) (b : Ref sig .tc) (X : b.ty.Contents (Elt F)) :
    ((Memref.whole b).view.loc (c : Thread nD τ) ↦[Finset.univ]{fullShare} (X : Buf (Elt F) ((c : Thread nD τ).loc b)) : sProp 𝕄) ⊢ stg c b X := by
  unfold stg
  iintro H
  iexists X
  isplitr; · ipureintro; rfl
  iexact H

theorem before_q (c : Dev nD) (d) : (dats m ρ 0 c).before (0 : Fin 2) t0_0 d = qStg m c :=
  ((dats m ρ 0 c).before_in_eq_fetched 0 rfl (fun _ => rfl) (fun _ _ _ => rfl) (fun t => by rw [fin_N0 t]; rfl) t0_0 d).trans rfl

def bodyPre (c : Dev nD) : sProp 𝕄 :=
  iprop(Φ₀ m c ∗ (dats m ρ 0 c).owesAt () (t0_0 : Fin cfg0.N).castSucc
    ∗ (∃ d, stg c cc0_stg0_0 ((dats m ρ 0 c).before (0 : Fin 2) t0_0 d))
    ∗ (∃ d, stg c cc0_stg1_0 ((dats m ρ 0 c).before (1 : Fin 2) t0_0 d)))
def bodyPost (c : Dev nD) : sProp 𝕄 :=
  iprop(Φ₁ m c ∗ (dats m ρ 0 c).owesAt () (t0_0 : Fin cfg0.N).succ ∗ stg c cc0_stg0_0 (qStg m c) ∗ stg c cc0_stg1_0 (outAt m c))

theorem body_post (c : Dev nD) : bodyEnd m c ⊢ bodyPost m ρ c := by
  unfold bodyEnd bodyPost Φ₁ Dat.owesAt Pipeline.owesWithin
  rw [show (dats m ρ 0 c).owed (t0_0 : Fin cfg0.N).succ = 0 from rfl]
  iintro ⟨Hl, Hk, Hz, ⟨%W, HO⟩, Hout⟩
  ihave H := (local_to m c) $$ [Hl Hk]
  · isplitl [Hl] <;> iassumption
  icases H with ⟨Ha, Hq, Hs, Hld⟩
  isplitl [Ha Hs Hld Hz]
  · isplitl [Ha]; · iexact Ha
    isplitl [Hs]; · iexact Hs
    isplitl [Hld] <;> iassumption
  isplitl [HO]
  · iexists W
    isplitr; · ipureintro; exact fun _ _ => Or.inl trivial
    iexact HO
  isplitl [Hq]; · unfold qPts; iapply (stg_out c cc0_stg0_0 (qStg m c)) $$ Hq
  iapply (stg_out c cc0_stg1_0 (outAt m c)) $$ Hout

/-- The library's body obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ (c : Thread nD τ) none) Set.univ (bodyAt0 (F := F) t0_0) (fun _ => bodyPost m ρ c)
  unfold bodyPre Φ₀ start Dat.owesAt Pipeline.owesWithin
  rw [show (dats m ρ 0 c).owed (t0_0 : Fin cfg0.N).castSucc = O₀ c from rfl]
  iintro ⟨⟨⟨⟨%K, HR, Hg⟩, Hlev, Hld, Ha⟩, Hs⟩, ⟨%W, -, HO⟩, ⟨%d, Hq⟩, ⟨%d', Hout⟩⟩
  rw [before_q]
  ihave Hq := (stg_in c cc0_stg0_0 (qStg m c)) $$ Hq
  ihave Hout := (stg_in c cc0_stg1_0 _) $$ Hout
  ihave H := (local_of m c) $$ [Ha Hq Hs Hld]
  · isplitl [Ha]; · iexact Ha
    isplitl [Hq]; · unfold qPts; iexact Hq
    isplitl [Hs] <;> iassumption
  icases H with ⟨Hl, Hsb⟩
  iapply (sound_body m K c W fun _ => bodyPost m ρ c)
  isplitl [HR]; · iexact HR
  isplitl [Hlev]; · iexact Hlev
  isplitl [Hg]; · iexact Hg
  isplitl [Hl]; · iexact Hl
  isplitl [Hsb]; · iexact Hsb
  isplitl [HO]; · iexact HO
  isplitl [Hout]; · iexists _; iexact Hout
  iintro H
  iapply (body_post m ρ c) $$ H

end Cert.Decode
end
-- ==== Proof.Launch.lean ====
module

public import proofs.«01_k».proof.Proof.Point
public import proofs.«01_k».proof.Proof.Gen.KernelIdeal.Launch
public import Idealize.ShloMosaic.Lib.Pipeline.CollectiveSegs

/-!
# The run of the eight devices

The protocol's cells and tokens funded at launch and dealt to the devices that pay them, the credits each device is
owed, and the run: every device's result array ends at the computed contents, the arguments unchanged, every
semaphore at zero.
-/

@[expose] public section
noncomputable section
namespace Cert.Decode
open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
local notation "𝕄" => MT nD τ sig Unit (Elt F) ℕ UU ℕ
variable (m : (ℓ : Loc nD τ sig) → Buf (Elt F) ℓ) (ρ : Dev nD → PrngReg)

/-- The kernel's own scoped semaphores: the six of the loads, the ten of the copies. -/
abbrev osem : Fin 16 → SemLoc sig := fun j => .dma (⟨j.val + 2, by have h := j.isLt; show _ < 18; omega⟩ : Fin 18)

theorem ownSemFacts : Pipeline.OwnSemFacts cfg0.spec osem := by decide

theorem share_eq (c : Dev nD) (w : Fin cfg0.W) : (dats m ρ 0 c).share w = fullShare := by unfold Dat.share; split <;> rfl

/-! ## Cells and tokens -/

theorem kcell_inj {c c' : Dev nD} {k k' : Fin 11} (h : kcell c k = kcell c' k') : c = c' ∧ k = k' := by
  refine ⟨congrArg (fun g : GSem nD τ sig => g.1.1) h, ?_⟩
  have h2 : csem k = csem k' := congrArg Prod.snd h
  have h3 := congrArg kind h2
  rw [kind_csem, kind_csem] at h3
  exact Option.some.inj h3

def cellE : Dev nD × Fin 11 ↪ GSem nD τ sig := ⟨fun ck => kcell ck.1 ck.2, fun a b h => Prod.ext (kcell_inj h).1 (kcell_inj h).2⟩
def cells : Finset (GSem nD τ sig) := Finset.univ.map cellE

/-- The duties of a device's cells: the barrier's four, one of each other cell. -/
abbrev tk : Fin 14 → Fin 11 × Fin 4 := ![(0, 0), (0, 1), (0, 2), (0, 3), (1, 0), (2, 0), (3, 0), (4, 0), (5, 0), (6, 0), (7, 0), (8, 0), (9, 0), (10, 0)]
theorem tk_inj : Function.Injective tk := by decide

def tokE : Dev nD × Fin 14 ↪ GSem nD τ sig × ℕ × Fin 4 := ⟨fun cj => (kcell cj.1 (tk cj.2).1, 0, (tk cj.2).2), fun a b h => by
  have h1 := kcell_inj (congrArg Prod.fst h)
  exact Prod.ext h1.1 (tk_inj (Prod.ext h1.2 (congrArg (fun x => x.2.2) h)))⟩
def tokSet : Finset (GSem nD τ sig × ℕ × Fin 4) := Finset.univ.map tokE

def u₀ : UU := (initOf (Pipeline.cells cfgs cellOf_inj) (Pipeline.launchToks cfgs cellOf_inj), (initOf cells tokSet, 1))

/-- The duty tokens of device `c`'s own cells. -/
def toks (c : Dev nD) : sProp 𝕄 := iprop(
    dutyTok ER (kcell c 0) 0 0 ∗ dutyTok ER (kcell c 0) 0 1 ∗ dutyTok ER (kcell c 0) 0 2 ∗ dutyTok ER (kcell c 0) 0 3
    ∗ dutyTok ER (kcell c 1) 0 0 ∗ dutyTok ER (kcell c 2) 0 0 ∗ dutyTok ER (kcell c 3) 0 0 ∗ dutyTok ER (kcell c 4) 0 0
    ∗ dutyTok ER (kcell c 5) 0 0 ∗ dutyTok ER (kcell c 6) 0 0 ∗ dutyTok ER (kcell c 7) 0 0
    ∗ dutyTok ER (kcell c 8) 0 0 ∗ dutyTok ER (kcell c 9) 0 0 ∗ dutyTok ER (kcell c 10) 0 0)

/-- The tokens of the duties device `c` pays. -/
def payToks (c : Dev nD) : sProp 𝕄 := iprop(
    (dutyTok ER (kcell (pt 0 c) 0) 0 0 ∗ dutyTok ER (kcell (pt 1 c) 0) 0 1 ∗ dutyTok ER (kcell (pt 2 c) 0) 0 2 ∗ dutyTok ER (kcell (pt 3 c) 0) 0 3)
    ∗ (dutyTok ER (kcell c 1) 0 0 ∗ dutyTok ER (kcell c 2) 0 0 ∗ dutyTok ER (kcell c 5) 0 0 ∗ dutyTok ER (kcell c 6) 0 0 ∗ dutyTok ER (kcell c 7) 0 0)
    ∗ (dutyTok ER (kcell (pt 0 c) 3) 0 0 ∗ dutyTok ER (kcell (pt 0 c) 4) 0 0 ∗ dutyTok ER (kcell (pt 1 c) 8) 0 0 ∗ dutyTok ER (kcell (pt 2 c) 9) 0 0 ∗ dutyTok ER (kcell (pt 3 c) 10) 0 0))

/-- The positions of device `c` at its cells. -/
def pos (c : Dev nD) : sProp 𝕄 := bigSep Finset.univ fun k : Fin 11 => atPos ER (kcell c k) 0 ∅ 0

theorem bigSep_11 (Φ : Fin 11 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10) :=
  bigSep_univ_eq_bigSepL [0, 1, 2, 3, 4, 5, 6, 7, 8, 9, 10] (by decide) (by decide) Φ
theorem bigSep_14 (Φ : Fin 14 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) :=
  bigSep_univ_eq_bigSepL [0, 1, 2, 3, 4, 5, 6, 7, 8, 9, 10, 11, 12, 13] (by decide) (by decide) Φ

/-- What the launch element deals device `c`. -/
def G (c : Dev nD) : sProp 𝕄 :=
  iprop((bigSep Finset.univ fun k : Fin 11 => roundState ER (sch m) (kcell c k) 0)
    ∗ (pos c ∗ bigSep Finset.univ fun k : Fin 11 => reached ER (kcell c k) 0) ∗ toks c)

/-- What the global step makes of it. -/
def G' (c : Dev nD) : sProp 𝕄 := iprop((∃ K, records m K ∗ pos c ∗ payToks c) ∗ loadSems c)

theorem fund : BI.own (ER (initOf cells tokSet)) ⊢ (|==> bigSep Finset.univ (G m) : sProp 𝕄) := by
  have hX (Φ : GSem nD τ sig → sProp 𝕄) : bigSep cells Φ = bigSep Finset.univ fun c : Dev nD => bigSep Finset.univ fun k : Fin 11 => Φ (kcell c k) := by
    unfold cells; rw [bigSep_map, bigSep_univ_prod]; rfl
  have hT : bigSep tokSet (fun x => (dutyTok ER x.1 x.2.1 x.2.2 : sProp 𝕄)) = bigSep Finset.univ fun c : Dev nD => toks c := by
    unfold tokSet; rw [bigSep_map, bigSep_univ_prod]
    exact bigSep_congr fun c _ => by unfold toks; rw [bigSep_14]; rfl
  iintro HX
  imod (Rounds.fund ER (sch m) cells tokSet) $$ HX with ⟨Hst, Hr, Hat, Htok⟩
  imodintro
  ihave Hst' := (Entails.of_eq (hX fun g => roundState ER (sch m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G pos; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = iprop(semVal ((c : Thread nD τ), .dma (2 : Fin 18)) 0 ∗ semVal ((c : Thread nD τ), .dma (3 : Fin 18)) 0 ∗ semVal ((c : Thread nD τ), .dma (4 : Fin 18)) 0
      ∗ semVal ((c : Thread nD τ), .dma (5 : Fin 18)) 0 ∗ semVal ((c : Thread nD τ), .dma (6 : Fin 18)) 0 ∗ semVal ((c : Thread nD τ), .dma (7 : Fin 18)) 0
      ∗ semVal (kcell c 1) 0 ∗ semVal (kcell c 2) 0 ∗ semVal (kcell c 3) 0 ∗ semVal (kcell c 4) 0 ∗ semVal (kcell c 5) 0
      ∗ semVal (kcell c 6) 0 ∗ semVal (kcell c 7) 0 ∗ semVal (kcell c 8) 0 ∗ semVal (kcell c 9) 0 ∗ semVal (kcell c 10) 0) := by
  rw [Pipeline.ownSems0_eq_of_list c osem [0, 1, 2, 3, 4, 5, 6, 7, 8, 9, 10, 11, 12, 13, 14, 15] (by decide) (by decide)]; rfl
theorem unscopedSems0_eq (c : Dev nD) : (unscopedSems0 c : sProp 𝕄) = semVal (kcell c 0) 0 := by
  unfold unscopedSems0; rw [bigSep_eq_bigSepL_of_eq [SemLoc.reg barS] (by decide) (by decide)]; rfl

theorem sems_of (c : Dev nD) :
    iprop(Pipeline.ownSems0 (Ix := Unit) (Name := ℕ) (U := UU) (Lvl := ℕ) (Val := Elt F) (τ := τ) osem c ∗ unscopedSems0 c)
      ⊢ (iprop(loadSems c ∗ semsEnd c) : sProp 𝕄) := by
  rw [ownSems0_eq, unscopedSems0_eq]
  unfold loadSems semsEnd
  iintro ⟨⟨s2, s3, s4, s5, s6, s7, z1, z2, z3, z4, z5, z6, z7, z8, z9, z10⟩, z0⟩
  isplitl [s2 s3 s4 s5 s6 s7]
  · isplitl [s2]; · iexact s2
    isplitl [s3]; · iexact s3
    isplitl [s4]; · iexact s4
    isplitl [s5]; · iexact s5
    isplitl [s6] <;> iassumption
  isplitl [z0]; · iexact z0
  isplitl [z1]; · iexact z1
  isplitl [z2]; · iexact z2
  isplitl [z3]; · iexact z3
  isplitl [z4]; · iexact z4
  isplitl [z5]; · iexact z5
  isplitl [z6]; · iexact z6
  isplitl [z7]; · iexact z7
  isplitl [z8]; · iexact z8
  isplitl [z9] <;> iassumption

theorem sems_to (c : Dev nD) : (iprop(loadSems c ∗ semsEnd c) : sProp 𝕄)
    ⊢ iprop(unscopedSems0 c ∗ Pipeline.ownSems0 (Ix := Unit) (Name := ℕ) (U := UU) (Lvl := ℕ) (Val := Elt F) (τ := τ) osem c) := by
  rw [ownSems0_eq, unscopedSems0_eq]
  unfold loadSems semsEnd
  iintro ⟨⟨s2, s3, s4, s5, s6, s7⟩, z0, z1, z2, z3, z4, z5, z6, z7, z8, z9, z10⟩
  isplitl [z0]; · iexact z0
  isplitl [s2]; · iexact s2
  isplitl [s3]; · iexact s3
  isplitl [s4]; · iexact s4
  isplitl [s5]; · iexact s5
  isplitl [s6]; · iexact s6
  isplitl [s7]; · iexact s7
  isplitl [z1]; · iexact z1
  isplitl [z2]; · iexact z2
  isplitl [z3]; · iexact z3
  isplitl [z4]; · iexact z4
  isplitl [z5]; · iexact z5
  isplitl [z6]; · iexact z6
  isplitl [z7]; · iexact z7
  isplitl [z8]; · iexact z8
  isplitl [z9] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sch m) κ (kcell c k)))
          ∗ (pos c ∗ bigSep Finset.univ fun k : Fin 11 => reached ER (kcell c k) 0) ∗ toks c ∗ loadSems c) := by
  unfold G
  iintro ⟨Hos, Hus, Hst, Hat, Htok⟩
  ihave Hv := (sems_of (F := F) c) $$ [Hos Hus]
  · isplitl [Hos] <;> iassumption
  icases Hv with ⟨Hld, Hv⟩
  ihave Hv := (Entails.of_eq (show semsEnd c = bigSep Finset.univ fun k : Fin 11 => (semVal (kcell c k) 0 : sProp 𝕄) from by rw [bigSep_11]; rfl)) $$ Hv
  imod (show iprop((bigSep Finset.univ fun k : Fin 11 => semVal (kcell c k) 0) ∗ bigSep Finset.univ fun k : Fin 11 => roundState ER (sch m) (kcell c k) 0)
      ⊢ (|={Set.univ}=> bigSep Finset.univ fun k => iprop(∃ κ : ℕ, cellInv ER (sch m) κ (kcell c k)) : sProp 𝕄) from by
        rw [← bigSep_sep']
        exact (bigSep_mono fun k _ => (Rounds.body_intro ER (sch m) (kcell c k)).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-- The tokens dealt to the partners that pay them. -/
theorem toks_around : (bigSep Finset.univ fun c : Dev nD => (toks c : sProp 𝕄)) ⊢ bigSep Finset.univ fun c : Dev nD => payToks c := by
  unfold toks payToks
  simp only [bigSep_sep']
  rw [bigSep_univ_equiv (ptE 0) (fun c : Dev nD => (dutyTok ER (kcell c 0) 0 0 : sProp 𝕄)),
    bigSep_univ_equiv (ptE 1) (fun c : Dev nD => (dutyTok ER (kcell c 0) 0 1 : sProp 𝕄)),
    bigSep_univ_equiv (ptE 2) (fun c : Dev nD => (dutyTok ER (kcell c 0) 0 2 : sProp 𝕄)),
    bigSep_univ_equiv (ptE 3) (fun c : Dev nD => (dutyTok ER (kcell c 0) 0 3 : sProp 𝕄)),
    bigSep_univ_equiv (ptE 0) (fun c : Dev nD => (dutyTok ER (kcell c 3) 0 0 : sProp 𝕄)),
    bigSep_univ_equiv (ptE 0) (fun c : Dev nD => (dutyTok ER (kcell c 4) 0 0 : sProp 𝕄)),
    bigSep_univ_equiv (ptE 1) (fun c : Dev nD => (dutyTok ER (kcell c 8) 0 0 : sProp 𝕄)),
    bigSep_univ_equiv (ptE 2) (fun c : Dev nD => (dutyTok ER (kcell c 9) 0 0 : sProp 𝕄)),
    bigSep_univ_equiv (ptE 3) (fun c : Dev nD => (dutyTok ER (kcell c 10) 0 0 : sProp 𝕄))]
  iintro ⟨b0, b1, b2, b3, t1, t2, t3, t4, t5, t6, t7, t8, t9, t10⟩
  isplitl [b0 b1 b2 b3]
  · isplitl [b0]; · iexact b0
    isplitl [b1]; · iexact b1
    isplitl [b2]; · iexact b2
    iexact b3
  isplitl [t1 t2 t5 t6 t7]
  · isplitl [t1]; · iexact t1
    isplitl [t2]; · iexact t2
    isplitl [t5]; · iexact t5
    isplitl [t6]; · iexact t6
    iexact t7
  isplitl [t3]; · iexact t3
  isplitl [t4]; · iexact t4
  isplitl [t8]; · iexact t8
  isplitl [t9]; · iexact t9
  iexact t10

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem deal (K : Dev nD × Fin 11 → ℕ) (c : Dev nD) : iprop(records m K ∗ (pos c ∗ payToks c ∗ loadSems c)) ⊢ G' m c := by
  unfold G'
  iintro ⟨HR, Hp, Ht, Hl⟩
  isplitl [HR Hp Ht]
  · iexists K
    isplitl [HR]; · iexact HR
    isplitl [Hp] <;> iassumption
  iexact Hl

theorem regroup :
    (bigSep Finset.univ fun c : Dev nD => iprop((bigSep Finset.univ fun k => iprop(∃ κ : ℕ, cellInv ER (sch m) κ (kcell c k)))
          ∗ (pos c ∗ bigSep Finset.univ fun k : Fin 11 => reached ER (kcell c k) 0) ∗ toks c ∗ loadSems c) : sProp 𝕄)
      ⊢ bigSep Finset.univ (G' m) := by
  simp only [bigSep_sep']
  rw [← bigSep_univ_prod (fun ck : Dev nD × Fin 11 => iprop(∃ κ : ℕ, cellInv ER (sch m) κ (kcell ck.1 ck.2))),
    ← bigSep_univ_prod (fun ck : Dev nD × Fin 11 => (reached ER (kcell ck.1 ck.2) 0 : sProp 𝕄))]
  iintro ⟨HI, ⟨Hat, #HR⟩, Htok, Hl⟩
  ihave HK := (BI.bigSep_exists_pi Finset.univ (fun (ck : Dev nD × Fin 11) (κ : ℕ) => (cellInv ER (sch m) κ (kcell ck.1 ck.2) : sProp 𝕄))) $$ HI
  icases HK with ⟨%K, #HI⟩
  ihave Htk := (toks_around (F := F)) $$ Htok
  iapply (with_persistent (R := records m K) fun c _ => deal m K c)
  isplitr
  · unfold records
    rw [bigSep_sep']
    isplitl; · iexact HI
    iexact HR
  simp only [bigSep_sep']
  isplitl [Hat]; · iexact Hat
  isplitl [Htk] <;> iassumption

/-- The global step: every device's own and unscoped semaphores at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- What all devices together owe device `c`'s cell `k` by one of their tallies. -/
theorem sum_tally (i : Fin 4) (k' : Fin 11) (a : ℕ) (c : Dev nD) (k : Fin 11) :
    ∑ d : Dev nD, (tallyAt (kcell (pt i d) k') () a : CellTallies nD τ sig Unit) (kcell c k) () = if k = k' then a else 0 := by
  have h (d : Dev nD) : (tallyAt (kcell (pt i d) k') () a : CellTallies nD τ sig Unit) (kcell c k) () = if d = pt i c then (if k = k' then a else 0) else 0 := by
    rw [tallyAt_apply]
    by_cases hd : d = pt i c
    · subst hd
      rw [pt_pt, if_pos rfl]
      by_cases hk : k = k'
      · subst hk; rw [if_pos ⟨rfl, rfl⟩, if_pos rfl]
      · rw [if_neg fun h => hk (kcell_inj h.1).2, if_neg hk]
    · rw [if_neg fun h => hd (by rw [(kcell_inj h.1).1, pt_pt]), if_neg hd]
  rw [Finset.sum_congr rfl fun d _ => h d, Finset.sum_ite_eq' Finset.univ (pt i c), if_pos (Finset.mem_univ _)]

theorem owed_sum (c : Dev nD) (k : Fin 11) : ∑ d : Dev nD, O₀ d (kcell c k) ()
    = (if k = 10 then Ng else 0) + (if k = 9 then Ng else 0) + (if k = 8 then Ng else 0) + (if k = 4 then Nm else 0) + (if k = 3 then No else 0)
      + (if k = 0 then 1 else 0) + (if k = 0 then 1 else 0) + (if k = 0 then 1 else 0) + (if k = 0 then 1 else 0) := by
  unfold O₀ B₃ B₂ B₁ O₁ O₂ O₃ O₄ O₅
  simp only [Pi.add_apply, Finsupp.add_apply, Finset.sum_add_distrib, sum_tally]

theorem launch_at (c : Dev nD) (k : Fin 11) (n : ℕ) (h : ∑ d : Dev nD, O₀ d (kcell c k) () = n) :
    tallyOn (kcell c k) (launchCredit (Pipeline.owing O₀) 0 (kcell c k)) = (tallyAt (kcell c k) () n : CellTallies nD τ sig Unit) := by
  unfold tallyAt; refine congrArg _ (Finsupp.ext fun u => ?_); cases u
  rw [Pipeline.launchCredit_owing, Finsupp.single_eq_same, h]

def creds (c : Dev nD) : sProp 𝕄 := iprop(cred (tallyAt (kcell c 0) () 4) ∗ cred (tallyAt (kcell c 3) () No) ∗ cred (tallyAt (kcell c 4) () Nm)
      ∗ cred (tallyAt (kcell c 8) () Ng) ∗ cred (tallyAt (kcell c 9) () Ng) ∗ cred (tallyAt (kcell c 10) () Ng))

theorem creds_of (c : Dev nD) : (Pipeline.launchCred O₀ c : sProp 𝕄) ⊢ creds c := by
  unfold Pipeline.launchCred creds
  have h : (bigSep Finset.univ (fun sm : SemLoc sig => cred (tallyOn ((c : Thread nD τ), sm) (launchCredit (Pipeline.owing O₀) 0 ((c : Thread nD τ), sm)))) : sProp 𝕄)
      ⊢ bigSep ([csem 0, csem 3, csem 4, csem 8, csem 9, csem 10] : List (SemLoc sig)).toFinset (fun sm : SemLoc sig => cred (tallyOn ((c : Thread nD τ), sm) (launchCredit (Pipeline.owing O₀) 0 ((c : Thread nD τ), sm)))) := bigSep_subset (Finset.subset_univ _)
  refine BIBase.Entails.trans h (Entails.of_eq ?_)
  rw [bigSep_eq_bigSepL_of_eq [csem 0, csem 3, csem 4, csem 8, csem 9, csem 10] rfl (by decide),
    ← launch_at c 0 4 (owed_sum c 0), ← launch_at c 3 No (owed_sum c 3), ← launch_at c 4 Nm (owed_sum c 4), ← launch_at c 8 Ng (owed_sum c 8),
    ← launch_at c 9 Ng (owed_sum c 9), ← launch_at c 10 Ng (owed_sum c 10)]
  rfl

theorem ghost_intro (c : Dev nD) : (iprop(pos c ∗ payToks c ∗ creds c) : sProp 𝕄) ⊢ ghost c := by
  unfold pos payToks creds ghost
  rw [bigSep_11]
  iintro ⟨Hp, ⟨H1, H2, H3⟩, Hc⟩
  isplitl [Hp]; · iexact Hp
  isplitl [H1]; · iexact H1
  isplitl [H2]; · iexact H2
  isplitl [H3]; · iexact H3
  iexact Hc

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨Hun, Hlev, Hcr, -, HG⟩
  ihave Hc := (creds_of (F := F) c) $$ Hcr
  ihave Ha := (show (Pipeline.unscopedRestP Pipeline.Prefetch.none cfg0.spec c (fun b => m ((c : Thread nD τ).loc b)) : sProp 𝕄) ⊢ args m c from
    Entails.of_eq ((unscopedRest0_eq c fun b => m ((c : Thread nD τ).loc b)).trans rfl)) $$ Hun
  imodintro
  unfold start G'
  icases HG with ⟨⟨%K, HR, Hp, Ht⟩, Hl⟩
  isplitl
  · isplitl [HR Hp Ht Hc]
    · iexists K
      isplitl [HR]; · iexact HR
      iapply (ghost_intro (F := F) c)
      isplitl [Hp]; · iexact Hp
      isplitl [Ht] <;> iassumption
    isplitl [Hlev]; · iexact Hlev
    isplitl [Hl] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scratch_eq]
  unfold Φ₀
  iintro ⟨Hs, -, Hr⟩
  isplitl [Hs] <;> iassumption

theorem phi1_exit (c : Dev nD) :
    (dats m ρ 0 c).Φ (Fin.last cfg0.N) ⊢ iprop((args m c ∗ unscopedSems0 c) ∗ Pipeline.ownSems0 osem c ∗ Pipeline.scopedRest cfg0.spec c) := by
  rw [show (dats m ρ 0 c).Φ (Fin.last cfg0.N) = Φ₁ m c from rfl, scratch_eq]
  unfold Φ₁
  iintro ⟨Ha, Hs, Hl, Hz⟩
  ihave H := (sems_to (F := F) c) $$ [Hl Hz]
  · isplitl [Hl] <;> iassumption
  icases H with ⟨Hu, Ho⟩
  isplitl [Ha Hu]
  · isplitl [Ha] <;> iassumption
  isplitl [Ho] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_of c _ 1 _ (by
      rcases t with ⟨_ | _, ht⟩
      · exact above_O₀ c
      · exact above_zero 1) (by fin_cases w <;> fin_cases s <;> decide)

/-! ## The run -/

/-- What the run ends with: each device's arrays of the two windows at the computed contents, its keys and values unchanged. -/
def Post (r : MemSt nD τ sig (Elt F)) : Prop :=
  ∀ c : Dev nD, (∀ w : Fin cfg0.W, r.mem ((cfg0.win w).arr.view.loc (c : Thread nD τ)) = (dats m ρ 0 c).arrAt w cfg0.N)
    ∧ r.mem ((c : Thread nD τ).loc main_arg1) = m ((c : Thread nD τ).loc main_arg1) ∧ r.mem ((c : Thread nD τ).loc main_arg2) = m ((c : Thread nD τ).loc main_arg2)

set_option maxRecDepth 8000 in
theorem run_region : θ_run defs (onTc (τ := τ) (main (F := F))) (s₀ m ρ) (fun r => Post m ρ r.2 ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      ihave HX := (own_pair_emb _ _ _) $$ HX
      icases HX with ⟨HX, -⟩
      imod (fund m) $$ HX with HG
      imodintro
      isplitl [HP] <;> iassumption)
    (hglob := glob m)
    (hA := fun _ _ => rfl) (hpf := fun _ k => k.elim0)
    (X := start m) (Y := fun c => iprop(args m c ∗ unscopedSems0 c)) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg1) = m ((c : Thread nD τ).loc main_arg1) ∧ s.mem ((c : Thread nD τ).loc main_arg2) = m ((c : Thread nD τ).loc main_arg2))
    (hY := fun c s' => by
      unfold args
      iintro ⟨⟨⟨H1, H2⟩, Hu⟩, -, HSI⟩
      icombine HSI H1 gives %h1
      icombine HSI H2 gives %h2
      imod (Pipeline.unscopedSems0_read (X := unscopedSems0 c) (c := c) fupd_intro s') $$ [Hu HSI] with ⟨%h, HSI⟩
      · isplitl [Hu] <;> iassumption
      imodintro
      isplitr
      · ipureintro
        exact ⟨h, Buf.eq_of_forall_mem_univ h1, Buf.eq_of_forall_mem_univ h2⟩
      iexact HSI)
    (hQ := fun _ h hs => ⟨fun c => ⟨fun w => (h c).1 w, (h c).2.2.2⟩, sem_eq_zero hs fun c => (h c).2.2.1⟩)

end Cert.Decode
end
-- ==== Proof.Run.lean ====
module

public import proofs.«01_k».proof.Proof.Launch
public import Idealize.ShloMosaic.PureOps.BitExact

/-!
# What the run leaves

Every device's result array holds `outAt`, its arguments are as launched, every semaphore is at zero.
-/

@[expose] public section
noncomputable section
namespace Cert.Decode
open Cert.KernelIdeal Cert.KernelIdeal.Gen
open Idealize.ShloMosaic
open Idealize.ShloMosaic.TcCoe Idealize.ShloMosaic.Tactic
open Idealize.SL.Sem
open Idealize.ShloMosaic.Pipeline (Dat Cfg Window)

variable {F : FTy → Type} [FloatOps F] [Named F]
variable (m : (ℓ : Loc nD τ sig) → Buf (Elt F) ℓ) (ρ : Dev nD → PrngReg)

/-- The queries' array is only read. -/
theorem final_q (c : Dev nD) : (dats m ρ 0 c).arrAt (0 : Fin 2) cfg0.N = m ((c : Thread nD τ).loc main_arg0) :=
  ((dats m ρ 0 c).arrAt_in (0 : Fin 2) rfl _).trans rfl

/-- The result's array after the one whole-array write-back: what the body left in the staging buffer. -/
theorem final_out (c : Dev nD) : (dats m ρ 0 c).arrAt (1 : Fin 2) cfg0.N = outAt m c := by
  have ho : ((cfg0.win (1 : Fin 2)).blk t0_0).view.read (Elt F) ((dats m ρ 0 c).arrAt (1 : Fin 2) cfg0.N)
      = (dats m ρ 0 c).flushed (1 : Fin 2) t0_0 := by
    rw [show cfg0.N = (t0_0 : Fin cfg0.N).val + 1 from rfl, (dats m ρ 0 c).arrAt_succ (1 : Fin 2) t0_0]
    rw [show (cfg0.win (1 : Fin 2)).flush t0_0 = true from by decide, if_pos rfl]
    exact View.read_write_univ _ _
  have hz : (fun a => (win0_1.index t0_0) a * main_v1.ty.shape.size a) = fun _ => 0 := funext fun a => by fin_cases a <;> decide
  have hr := fun f => Memref.read_access_unit_zero (Elt F) main_v1 hz (fun a => by fin_cases a <;> decide) f
  rw [hr] at ho
  rw [ho]
  rfl

/-- The whole run. -/
theorem run_main : θ_run (defs (F := F)) (onTc (τ := τ) (main (F := F))) ⟨m, fun _ => 0, ρ⟩ (fun r => (∀ c : Dev nD,
      r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run _ _ _).mono (fun r h => ⟨fun c =>
    ⟨((h.1 c).1 (1 : Fin 2)).trans (final_out m ρ c), ((h.1 c).1 (0 : Fin 2)).trans (final_q m ρ c), (h.1 c).2.1, (h.1 c).2.2⟩, h.2⟩) (run_region m ρ)

end Cert.Decode
end
-- ==== Proof.Frames.lean ====
module

public import proofs.«01_k».proof.Proof.Run
public import proofs.«01_k».proof.Proof.Gen.Kernel
public import proofs.«01_k».proof.Proof.Gen.ReferenceIdeal.Run
public import proofs.«01_k».proof.Defs

/-!
# The frames, and what the named constant preserves

The idealized program is the printed one with two named constants, which at the machine's floats are the literals' own bits:
one run, read at both arithmetics.
-/

@[expose] public section
noncomputable section
namespace Cert.Decode
open Idealize.ShloMosaic
open Idealize.SL.Sem

/-- At the machine's floats a named constant is its pattern. -/
local instance namedBits : Named Bits where
  named _ _ {φ} b := Scalar.ofBits φ b

set_option maxRecDepth 20000 in
/-- The two printed bodies are one at the machine's floats. -/
theorem body_eq : Cert.Kernel.cc0_body (F := Bits) = Cert.KernelIdeal.cc0_body (F := Bits) := by
  delta Cert.Kernel.cc0_body Cert.KernelIdeal.cc0_body
  rfl

theorem defs₀_eq : Cert.Kernel.defs₀ (F := Bits) = Cert.KernelIdeal.defs₀ (F := Bits) := by
  delta Cert.Kernel.defs₀ Cert.KernelIdeal.defs₀
  refine congrArg Defs.onTc ?_
  funext l x
  match l, x with
  | 0, (t, s) => rfl
  | ⟨_ + 1, h⟩, _ => exact absurd h (Nat.not_lt.2 (Nat.le_add_left _ _))

theorem defs_eq : Cert.Kernel.defs (F := Bits) = Cert.KernelIdeal.defs (F := Bits) := by
  delta Cert.Kernel.defs Cert.KernelIdeal.defs
  exact congrArg (Pipeline.defs Cert.KernelIdeal.pcfgs) defs₀_eq

theorem main_eq : Cert.Kernel.main (F := Bits) = Cert.KernelIdeal.main (F := Bits) := rfl

theorem frame_kernel : Cert.quiescent_Kernel (hKernel := Cert.Kernel.Gen.facts) := by
  intro m ρ _
  rw [main_eq, defs_eq]
  exact (θ_run (Cert.KernelIdeal.defs (F := Bits)) _ _).mono (fun _ h => ⟨fun c => (h.1 c).2, h.2⟩) (run_main (F := Bits) m ρ)

theorem frame_ideal : Cert.quiescent_KernelIdeal (hKernelIdeal := Cert.KernelIdeal.Gen.facts) := fun m ρ _ =>
  (θ_run (Cert.KernelIdeal.defs (F := Ideal)) _ _).mono (fun _ h => ⟨fun c => (h.1 c).2, h.2⟩) (run_main (F := Ideal) m ρ)

/-- The reference is a list of host operations and declares no semaphore. -/
theorem frame_reference : Cert.quiescent_ReferenceIdeal (hReferenceIdeal := Cert.ReferenceIdeal.Gen.facts) := fun m ρ _ =>
  (θ_run (Cert.ReferenceIdeal.defs (F := Ideal)) _ _).mono (fun r h => ⟨fun c => (h c).2, sem_eq_zero_of_no_sems (by decide) r.2⟩)
    (Cert.ReferenceIdeal.Value.run (F := Ideal) m ρ)

/-- The scale is named, and is one over the root of 128; the mask is named, and is ⊥. -/
theorem consts_named : Cert.preserves_Kernel_KernelIdeal :=
  ⟨IdealRules.named_const.statement Cert.KernelIdeal.κ "scale" .f32 0x3DB504F3#32 (((Real.sqrt 128)⁻¹ : ℝ) : EReal) rfl,
    IdealRules.named_const.statement Cert.KernelIdeal.κ "mask" .f32 0xF149F2CA#32 ⊥ rfl⟩

end Cert.Decode
end
-- ==== Proof.Chunk.lean ====
module

public import proofs.«01_k».proof.Proof.Values
public import Idealize.ShloMosaic.PureOps.Ideal
public import Idealize.ShloMosaic.Lib.Pointwise

/-!
# What one chunk computes, at the ideal floats

Each payload of the body read at an index: the head indicator, the mask, the masked scores, and the updates of the
running maximum, denominator and numerator.
-/

@[expose] public section
noncomputable section
namespace Cert.Decode
open Cert.KernelIdeal Cert.KernelIdeal.Gen
open Idealize.ShloMosaic

/-- A word modulo eight, as the kernel spells it. -/
def mod8 (x : BitVec 32) : BitVec 32 :=
  let n := Scalar.select (Scalar.cmpi .eq 8#32 0#32) 1#32 8#32
  let y := IntOp.remsi .vector x n
  Scalar.select (IntOp.andi (IntOp.xori (IntOp.cmpi .slt y 0#32) (Scalar.cmpi .slt n 0#32)) (IntOp.cmpi .ne y 0#32)) (IntOp.addi y n) y

theorem mod8_eq : ∀ r : Fin 4096, mod8 (BitVec.ofNat 32 r.val) = BitVec.ofNat 32 (r.val % 8) := by decide +kernel

/-- A word divided by thirty-two, as the kernel spells it. -/
def div32 (x : BitVec 32) : BitVec 32 :=
  Scalar.select
    (IntOp.andi
      (IntOp.cmpi .ne (IntOp.subi (BitVec.setWidth 32 (IntOp.cmpi .sgt x 0#32)) (BitVec.setWidth 32 (IntOp.cmpi .slt x 0#32)))
        (Scalar.subi (Scalar.extui (Scalar.cmpi .sgt 32#32 0#32)) (Scalar.extui (Scalar.cmpi .slt 32#32 0#32))))
      (IntOp.cmpi .ne (IntOp.remsi .vector x 32#32) 0#32))
    (IntOp.subi (IntOp.divsi .vector x 32#32) 1#32) (IntOp.divsi .vector x 32#32)

theorem div32_eq : ∀ j : Fin 256, div32 (BitVec.ofNat 32 j.val) = BitVec.ofNat 32 (j.val / 32) := by decide +kernel

theorem word_eq : ∀ a b : Fin 8, IntOp.cmpi .eq (BitVec.ofNat 32 a.val) (BitVec.ofNat 32 b.val) = if a = b then 1#1 else 0#1 := by decide

/-- The indicator is one exactly where the row belongs to the head. -/
theorem ind_apply (r : Fin 4096) (j : Fin 8) : indK (F := Ideal) (ix2 r j) = if r.val % 8 = j.val then 1 else 0 := by
  unfold indK k0_pay12 k0_pay11
  simp only [pointwise, List.foldl_cons, List.foldl_nil, zero_mul, zero_add, ix2_0, ix2_1]
  show Scalar.select (IntOp.cmpi .eq (mod8 (BitVec.ofNat 32 r.val)) (BitVec.ofNat 32 j.val)) (1 : EReal) 0 = _
  rw [mod8_eq, show r.val % 8 = (⟨r.val % 8, Nat.mod_lt _ (by decide)⟩ : Fin 8).val from rfl, word_eq]
  by_cases h : (⟨r.val % 8, Nat.mod_lt _ (by decide)⟩ : Fin 8) = j
  · rw [if_pos h, if_pos (congrArg Fin.val h)]; rfl
  · rw [if_neg h, if_neg fun h' => h (Fin.ext h')]; rfl

/-- The mask is zero on the column's own head and `⊥` off it. -/
theorem bias_apply (r : Fin 8) (j : Fin 256) : biasK (F := Ideal) (ix2 r j) = if r.val = j.val / 32 then 0 else ⊥ := by
  unfold biasK k0_pay13
  simp only [pointwise, List.foldl_cons, List.foldl_nil, zero_mul, zero_add, ix2_0, ix2_1]
  show Scalar.select (IntOp.cmpi .eq (BitVec.ofNat 32 r.val) (div32 (BitVec.ofNat 32 j.val))) (0 : EReal) ⊥ = _
  have hj : j.val / 32 < 8 := by have := j.isLt; omega
  rw [div32_eq, show j.val / 32 = (⟨j.val / 32, hj⟩ : Fin 8).val from rfl, word_eq]
  by_cases h : r = (⟨j.val / 32, hj⟩ : Fin 8)
  · rw [if_pos h, if_pos (congrArg Fin.val h)]; rfl
  · rw [if_neg h, if_neg fun h' => h (Fin.ext h')]; rfl

/-- The indicator times the mask: the mask of the row's own head. -/
theorem ind_bias (r : Fin 4096) (j : Fin 256) :
    ∑ h : Fin 8, indK (F := Ideal) (ix2 r h) * biasK (F := Ideal) (ix2 h j) = if r.val % 8 = j.val / 32 then 0 else ⊥ := by
  rw [Finset.sum_eq_single (⟨r.val % 8, Nat.mod_lt _ (by decide)⟩ : Fin 8)]
  · rw [ind_apply, bias_apply, if_pos rfl, one_mul]
  · intro h _ hne
    rw [ind_apply, if_neg fun h' => hne (Fin.ext h'.symm), zero_mul]
  · exact fun h => absurd (Finset.mem_univ _) h

/-- The masked scores of a chunk. -/
theorem scores_apply (k : Vec Ideal S1x4096x128 .f32) (q : Vec Ideal S128x256 .bf16) (r : Fin 4096) (j : Fin 256) :
    k0_pay30 (F := Ideal) indK biasK k q (ix2 r j)
      = (∑ d : Fin 128, k (ix3 0 r d) * q (ix2 d j)) + if r.val % 8 = j.val / 32 then (0 : EReal) else ⊥ := by
  unfold k0_pay30
  simp only [pointwise, zero_add]
  rw [ind_bias]

variable (ind : FVec Ideal S4096x8 .bf16) (bias : FVec Ideal S8x256 .bf16) (mm ll : FVec Ideal S1x256 .f32) (oo : FVec Ideal S256x128 .f32)
variable (k v : Vec Ideal S1x4096x128 .f32) (q : Vec Ideal S128x256 .bf16)

/-- The new maximum. -/
theorem max_apply (j : Fin 256) :
    k0_pay31 (F := Ideal) ind bias mm k q (ix2 0 j) = max (mm (ix2 0 j)) (Finset.univ.sup fun r : Fin 4096 => k0_pay30 (F := Ideal) ind bias k q (ix2 r j)) := by
  unfold k0_pay31
  generalize k0_pay30 ind bias k q = S
  simp only [pointwise]
  rfl

/-- The new denominator. -/
theorem den_apply (j : Fin 256) :
    k0_pay34 (F := Ideal) ind bias mm ll k q (ix2 0 j)
      = ll (ix2 0 j) * Ideal.exp (mm (ix2 0 j) - k0_pay31 (F := Ideal) ind bias mm k q (ix2 0 j))
        + ∑ r : Fin 4096, Ideal.exp (k0_pay30 (F := Ideal) ind bias k q (ix2 r j) - k0_pay31 (F := Ideal) ind bias mm k q (ix2 0 j)) := by
  unfold k0_pay34 k0_pay32 k0_pay33
  generalize k0_pay30 ind bias k q = S
  generalize k0_pay31 ind bias mm k q = M
  simp only [pointwise]
  rfl

/-- The new numerator. -/
theorem num_apply (j : Fin 256) (d : Fin 128) :
    k0_pay35 (F := Ideal) ind bias mm oo k q v (ix2 j d)
      = oo (ix2 j d) * Ideal.exp (mm (ix2 0 j) - k0_pay31 (F := Ideal) ind bias mm k q (ix2 0 j))
        + ∑ r : Fin 4096, Ideal.exp (k0_pay30 (F := Ideal) ind bias k q (ix2 r j) - k0_pay31 (F := Ideal) ind bias mm k q (ix2 0 j)) * v (ix3 0 r d) := by
  unfold k0_pay35 k0_pay32 k0_pay33
  generalize k0_pay30 ind bias k q = S
  generalize k0_pay31 ind bias mm k q = M
  simp only [pointwise, zero_add]
  rfl

/-- A head's queries, scaled by the named root and transposed. -/
theorem q_apply (x : Vec Ideal S1x32x1x128 .f32) (d : Fin 128) (j : Fin 32) :
    k0_pay2 (F := Ideal) x (ix2 d j) = x (ix4 0 j 0 d) * (((Real.sqrt 128)⁻¹ : ℝ) : EReal) := by
  unfold k0_pay2
  simp only [pointwise]
  rfl

/-- The merged row: both halves rescaled to the common maximum, the sum of the numerators over that of the denominators. -/
theorem merge_apply (a b : FVec Ideal S1x256 .f32) (o : FVec Ideal S256x128 .f32) (a' b' : Vec Ideal S256x1 .f32) (o' : Vec Ideal S256x128 .bf16)
    (j : Fin 256) (d : Fin 128) :
    k0_pay72 (F := Ideal) a b o a' b' o' (ix2 j d)
      = Ideal.div (Ideal.exp (a (ix2 0 j) - max (a (ix2 0 j)) (a' (ix2 j 0))) * o (ix2 j d) + Ideal.exp (a' (ix2 j 0) - max (a (ix2 0 j)) (a' (ix2 j 0))) * o' (ix2 j d))
          (Ideal.exp (a (ix2 0 j) - max (a (ix2 0 j)) (a' (ix2 j 0))) * b (ix2 0 j) + Ideal.exp (a' (ix2 j 0) - max (a (ix2 0 j)) (a' (ix2 j 0))) * b' (ix2 j 0)) := by
  unfold k0_pay72
  simp only [pointwise]
  rfl

end Cert.Decode
end
-- ==== Proof.Blocks.lean ====
module

public import proofs.«01_k».proof.Proof.Chunk
public import Idealize.ShloMosaic.Lib.Layout

/-!
# What a device's blocks are of the whole arrays

`Q`, `K`, `V` are the whole arrays; a key row is named by its number among the 65536 rows of a batch row, eight heads to a
key.
-/

@[expose] public section
noncomputable section
namespace Cert.Decode
open Cert.KernelIdeal Cert.KernelIdeal.Gen
open Idealize.ShloMosaic Idealize.ShloMosaic.TcCoe

/-- A row number as an index of the whole arrays. -/
def rowOf (i : ℕ) : Fin 65536 := ⟨i % 65536, Nat.mod_lt _ (by decide)⟩

/-- The first row of device `c`'s half. -/
def half (c : Dev nD) : ℕ := 32768 * (c.val / 2 % 2)

/-- The batch row of device `c`. -/
def brow (c : Dev nD) : Fin 4 := ⟨row c, row_lt c⟩

theorem mesh_half : ∀ c : Dev nD, Layout.meshLin [2, 2, 2] c.val [1] = c.val / 2 % 2 := by decide

section
variable {F : FTy → Type} [FloatOps F] [Named F] (m : (ℓ : Loc nD τ sig) → Buf (Elt F) ℓ) (c : Dev nD)

theorem kBlk_at (n : Fin 8) (r : Fin 4096) (d : Fin 128) :
    kBlk m c n (ix3 0 r d) = m ((c : Thread nD τ).loc main_arg1) (ix3 (n0 := 4) (n1 := 32768) (n2 := 128) (brow c) ⟨4096 * n.val + r.val, by omega⟩ d) := by
  unfold kBlk
  rw [View.readAt_apply]
  refine congrArg (m ((c : Thread nD τ).loc main_arg1)) (funext fun a => Fin.ext ?_)
  fin_cases a <;> simp [Rect.unit, chunkR, brow]

theorem vBlk_at (n : Fin 8) (r : Fin 4096) (d : Fin 128) :
    vBlk m c n (ix3 0 r d) = m ((c : Thread nD τ).loc main_arg2) (ix3 (n0 := 4) (n1 := 32768) (n2 := 128) (brow c) ⟨4096 * n.val + r.val, by omega⟩ d) := by
  unfold vBlk
  rw [View.readAt_apply]
  refine congrArg (m ((c : Thread nD τ).loc main_arg2)) (funext fun a => Fin.ext ?_)
  fin_cases a <;> simp [Rect.unit, chunkR, brow]

theorem qStg_eq : qStg m c = m ((c : Thread nD τ).loc main_arg0) := by
  funext i
  refine congrArg (m ((c : Thread nD τ).loc main_arg0)) (funext fun a => Fin.ext ?_)
  refine (Rect.emb_apply _ _ _).trans ?_
  fin_cases a <;> simp
  all_goals exact Or.inl rfl

theorem qHead_at (h : Fin 8) (q : Fin 32) (d : Fin 128) :
    qHead m c h (ix4 0 q 0 d) = m ((c : Thread nD τ).loc main_arg0) (ix4 (n0 := 4) (n1 := 32) (n2 := 8) (n3 := 128) (brow c) q h d) := by
  unfold qHead
  rw [View.readAt_apply, qStg_eq]
  refine congrArg (m ((c : Thread nD τ).loc main_arg0)) (funext fun a => Fin.ext ?_)
  fin_cases a <;> simp [Rect.unit, headR, brow]
end

theorem block_at (c : Dev nD) (X : (⟨3, ![4, 65536, 128]⟩ : Shape).Idx → EReal) (b : Fin 4) (r : Fin 32768) (d : Fin 128) :
    (Layout.blockN ⟨3, ![4, 32768, 128]⟩ ⟨3, ![4, 65536, 128]⟩ (Layout.meshBlock [2, 2, 2] ![[], [1], []] c) X) (ix3 b r d)
      = X (ix3 b (rowOf (half c + r.val)) d) := by
  rw [Layout.blockN_apply]
  refine congrArg X (funext fun a => Fin.ext ?_)
  rw [Layout.TilesN.idx_val]
  have hm := mesh_half c
  have hr := r.isLt
  fin_cases a <;> simp [hm, half, rowOf, Layout.meshBlock_val]
  all_goals first | rfl | omega

end Cert.Decode
end
-- ==== Proof.Softmax.lean ====
module

public import Idealize.ShloMosaic.PureOps.Ideal

/-!
# The online softmax over the extended reals

Scores `e` are real or `⊥` (masked); the values `v` are any extended reals. Of a set of rows: the maximum, and the sum of
`exp (e − M) · v` at a bound `M`. Raising the bound multiplies the sum by `exp (M − M')`, whatever the values are.
-/

@[expose] public section
noncomputable section
namespace Cert.Decode
open Idealize.ShloMosaic

/-- The weight of a score `e` at the bound `M`. -/
def wt (e M : EReal) : EReal := Ideal.exp (e - M)

/-- A weight at a bound is a real between zero and one. -/
theorem wt_real {e M : EReal} (h : e ≤ M) (hM : M < ⊤) : ∃ r : ℝ, 0 ≤ r ∧ wt e M = (r : EReal) := by
  unfold wt
  induction M with
  | top => exact absurd hM (lt_irrefl _)
  | bot =>
    rw [le_bot_iff.1 h]
    exact ⟨0, le_rfl, rfl⟩
  | coe M =>
    induction e with
    | top => exact absurd (top_le_iff.1 h) (EReal.coe_ne_top _)
    | bot => exact ⟨0, le_rfl, rfl⟩
    | coe e => exact ⟨Real.exp (e - M), (Real.exp_pos _).le, by rw [← EReal.coe_sub, Ideal.exp_coe]⟩

/-- Raising the bound. -/
theorem wt_mul {e M M' : EReal} (h : e ≤ M) (h' : M ≤ M') (hM' : M' < ⊤) : wt e M * wt M M' = wt e M' := by
  unfold wt
  induction M' with
  | top => exact absurd hM' (lt_irrefl _)
  | bot =>
    obtain rfl := le_bot_iff.1 h'
    obtain rfl := le_bot_iff.1 h
    exact mul_zero _
  | coe M' =>
    induction M with
    | top => exact absurd (top_le_iff.1 h') (EReal.coe_ne_top _)
    | bot =>
      obtain rfl := le_bot_iff.1 h
      exact mul_zero _
    | coe M =>
      induction e with
      | top => exact absurd (top_le_iff.1 h) (EReal.coe_ne_top _)
      | bot => exact zero_mul _
      | coe e =>
        rw [← EReal.coe_sub, ← EReal.coe_sub, ← EReal.coe_sub, Ideal.exp_coe, Ideal.exp_coe, Ideal.exp_coe, ← EReal.coe_mul,
          ← Real.exp_add, sub_add_sub_cancel]

/-- A nonnegative real factor distributes over a sum of extended reals. -/
theorem sum_mul_real {ι : Type*} (S : Finset ι) (f : ι → EReal) {r : ℝ} (hr : 0 ≤ r) : (∑ i ∈ S, f i) * (r : EReal) = ∑ i ∈ S, f i * (r : EReal) := by
  classical
  induction S using Finset.induction_on with
  | empty => simp
  | insert a S ha ih =>
    rw [Finset.sum_insert ha, Finset.sum_insert ha, ← ih,
      EReal.right_distrib_of_nonneg_of_ne_top (EReal.coe_nonneg.2 hr) (EReal.coe_ne_top _)]

/-- A sum of reals, as an extended real. -/
theorem coe_sum {ι : Type*} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

variable {ι : Type*} (e v : ι → EReal)

/-- The weighted sum of the values over the rows `S` at the bound `M`. -/
def num (S : Finset ι) (M : EReal) : EReal := ∑ i ∈ S, wt (e i) M * v i

/-- The sum of the weights. -/
def den (S : Finset ι) (M : EReal) : EReal := ∑ i ∈ S, wt (e i) M

theorem den_eq (S : Finset ι) (M : EReal) : den e S M = num e (fun _ => 1) S M := by simp [den, num]

theorem num_raise (S : Finset ι) {M M' : EReal} (h : ∀ i ∈ S, e i ≤ M) (h' : M ≤ M') (hM' : M' < ⊤) : num e v S M * wt M M' = num e v S M' := by
  obtain ⟨r, hr, hw⟩ := wt_real h' hM'
  unfold num
  rw [hw, sum_mul_real S _ hr]
  refine Finset.sum_congr rfl fun i hi => ?_
  rw [← wt_mul (h i hi) h' hM', hw, mul_right_comm]

theorem den_raise (S : Finset ι) {M M' : EReal} (h : ∀ i ∈ S, e i ≤ M) (h' : M ≤ M') (hM' : M' < ⊤) : den e S M * wt M M' = den e S M' := by
  rw [den_eq, den_eq, num_raise e _ S h h' hM']

theorem num_union [DecidableEq ι] {S T : Finset ι} (h : Disjoint S T) (M : EReal) : num e v (S ∪ T) M = num e v S M + num e v T M :=
  Finset.sum_union h

theorem den_union [DecidableEq ι] {S T : Finset ι} (h : Disjoint S T) (M : EReal) : den e (S ∪ T) M = den e S M + den e T M :=
  Finset.sum_union h

theorem sup_lt_top {S : Finset ι} (h : ∀ i ∈ S, e i < ⊤) : S.sup e < ⊤ := (Finset.sup_lt_iff bot_lt_top).2 h

/-- Where some score is real the denominator at the maximum is a positive real. -/
theorem den_pos {S : Finset ι} (hS : S.Nonempty) (h : ∀ i ∈ S, ∃ x : ℝ, e i = x) : ∃ r : ℝ, 0 < r ∧ den e S (S.sup e) = (r : EReal) := by
  have hle : ∀ i ∈ S, e i ≤ S.sup e := fun i hi => Finset.le_sup hi
  have hlt : S.sup e < ⊤ := sup_lt_top e fun i hi => by obtain ⟨x, hx⟩ := h i hi; rw [hx]; exact EReal.coe_lt_top x
  obtain ⟨i₀, hi₀⟩ := hS
  obtain ⟨x₀, hx₀⟩ := h i₀ hi₀
  obtain ⟨M, hM⟩ : ∃ M : ℝ, S.sup e = M := by
    refine ⟨(S.sup e).toReal, (EReal.coe_toReal hlt.ne ?_).symm⟩
    exact (lt_of_lt_of_le (by rw [hx₀]; exact EReal.bot_lt_coe x₀) (hle i₀ hi₀)).ne'
  choose! x hx using h
  refine ⟨∑ i ∈ S, Real.exp (x i - M), Finset.sum_pos (fun _ _ => Real.exp_pos _) ⟨i₀, hi₀⟩, ?_⟩
  rw [den, hM, coe_sum]
  refine Finset.sum_congr rfl fun i hi => ?_
  rw [wt, hx i hi, ← EReal.coe_sub, Ideal.exp_coe]

/-- Dividing the numerator is dividing each weight. -/
theorem num_div (S : Finset ι) (M : EReal) {r : ℝ} (hr : 0 < r) : Ideal.div (num e v S M) (r : EReal) = ∑ i ∈ S, Ideal.div (wt (e i) M) (r : EReal) * v i := by
  rw [Ideal.div_coe hr.ne', num, sum_mul_real S _ (one_div_nonneg.2 hr.le)]
  refine Finset.sum_congr rfl fun i _ => ?_
  rw [Ideal.div_coe hr.ne', mul_right_comm]

/-! ## Rows of one head among eight -/

/-- The rows of head `h` among the first `8 n`. -/
theorem masked_sum (n h : ℕ) (hh : h < 8) (f : ℕ → EReal) (hf : ∀ i, i % 8 ≠ h → f i = 0) :
    ∑ i ∈ Finset.range (8 * n), f i = ∑ k ∈ Finset.range n, f (8 * k + h) := by
  classical
  rw [← Finset.sum_image (s := Finset.range n) (g := fun k => 8 * k + h) (f := f) (by intro a _ b _ hab; simp only at hab; omega)]
  refine (Finset.sum_subset ?_ ?_).symm
  · intro i hi
    obtain ⟨k, hk, rfl⟩ := Finset.mem_image.1 hi
    rw [Finset.mem_range] at hk ⊢; omega
  · intro i hi hni
    refine hf i fun him => hni (Finset.mem_image.2 ⟨i / 8, ?_, ?_⟩)
    · rw [Finset.mem_range] at hi ⊢; omega
    · omega

theorem masked_sup (n h : ℕ) (hh : h < 8) (f : ℕ → EReal) (hf : ∀ i, i % 8 ≠ h → f i = ⊥) :
    (Finset.range (8 * n)).sup f = (Finset.range n).sup fun k => f (8 * k + h) := by
  refine le_antisymm (Finset.sup_le fun i hi => ?_) (Finset.sup_le fun k hk => ?_)
  · by_cases him : i % 8 = h
    · have : i = 8 * (i / 8) + h := by omega
      rw [this]
      exact Finset.le_sup (f := fun k => f (8 * k + h)) (b := i / 8) (by rw [Finset.mem_range] at hi ⊢; omega)
    · rw [hf i him]; exact bot_le
  · exact Finset.le_sup (f := f) (by rw [Finset.mem_range] at hk ⊢; omega)

end Cert.Decode
end
-- ==== Proof.State.lean ====
module

public import proofs.«01_k».proof.Proof.Blocks
public import proofs.«01_k».proof.Proof.Softmax

/-!
# The running softmax, as sets of rows

After `n` chunks the kernel's maximum, denominator and numerator are those of the `4096 n` key rows it has seen; a row of
another head than the column's counts with the score `⊥`, that is with no weight.
-/

@[expose] public section
noncomputable section
namespace Cert.Decode
open Cert.KernelIdeal Cert.KernelIdeal.Gen
open Idealize.ShloMosaic Idealize.ShloMosaic.TcCoe

/-- The factor the queries are scaled by: one over the root of the depth. -/
def scl : EReal := (((Real.sqrt 128)⁻¹ : ℝ) : EReal)

theorem scl_real : ∃ s : ℝ, scl = (s : EReal) := ⟨_, rfl⟩

abbrev QArr : Type := (⟨4, ![4, 32, 8, 128]⟩ : Shape).Idx → EReal
abbrev KArr : Type := (⟨3, ![4, 65536, 128]⟩ : Shape).Idx → EReal

/-- The head and the query of a column. -/
def headOf (j : Fin 256) : Fin 8 := ⟨j.val / 32, by omega⟩
def queryOf (j : Fin 256) : Fin 32 := ⟨j.val % 32, Nat.mod_lt _ (by decide)⟩

variable (Q : QArr) (K V : KArr)

/-- The scaled score of key row `i` of batch row `b` against column `j`. -/
def score (b : Fin 4) (j : Fin 256) (i : ℕ) : EReal := (∑ d : Fin 128, Q (ix4 b (queryOf j) (headOf j) d) * K (ix3 b (rowOf i) d)) * scl

/-- The score with the rows of other heads masked. -/
def escore (b : Fin 4) (j : Fin 256) (i : ℕ) : EReal := if i % 8 = (headOf j).val then score Q K b j i else ⊥

/-- A key row's value at `d`. -/
def val (b : Fin 4) (d : Fin 128) (i : ℕ) : EReal := V (ix3 b (rowOf i) d)

variable (hQ : ∀ i, ∃ x : ℝ, Q i = x) (hK : ∀ i, ∃ x : ℝ, K i = x)
include hQ hK

theorem score_real (b : Fin 4) (j : Fin 256) (i : ℕ) : ∃ x : ℝ, score Q K b j i = x := by
  obtain ⟨s, hs⟩ := scl_real
  choose xQ hxQ using hQ
  choose xK hxK using hK
  refine ⟨(∑ d : Fin 128, xQ (ix4 b (queryOf j) (headOf j) d) * xK (ix3 b (rowOf i) d)) * s, ?_⟩
  rw [score, hs, EReal.coe_mul, coe_sum]
  simp only [hxQ, hxK, EReal.coe_mul]

theorem escore_lt (b : Fin 4) (j : Fin 256) (i : ℕ) : escore Q K b j i < ⊤ := by
  unfold escore
  split
  · obtain ⟨x, hx⟩ := score_real Q K hQ hK b j i
    rw [hx]; exact EReal.coe_lt_top x
  · exact bot_lt_top

/-- The kernel scales the queries before the product, and masks by adding. -/
theorem score_kernel (b : Fin 4) (j : Fin 256) (i : ℕ) :
    (∑ d : Fin 128, K (ix3 b (rowOf i) d) * (Q (ix4 b (queryOf j) (headOf j) d) * scl)) + (if i % 8 = (headOf j).val then (0 : EReal) else ⊥)
      = escore Q K b j i := by
  have hsum : (∑ d : Fin 128, K (ix3 b (rowOf i) d) * (Q (ix4 b (queryOf j) (headOf j) d) * scl)) = score Q K b j i := by
    obtain ⟨s, hs⟩ := scl_real
    choose xQ hxQ using hQ
    choose xK hxK using hK
    rw [score, hs]
    simp only [hxQ, hxK]
    simp only [← EReal.coe_mul, ← coe_sum]
    rw [Finset.sum_mul]
    exact congrArg _ (Finset.sum_congr rfl fun d _ => by ring)
  rw [hsum, escore]
  split
  · rw [add_zero]
  · rw [EReal.add_bot]
omit hQ hK

/-! ## Rows of a chunk -/

/-- The rows device `c` has seen after `n` chunks. -/
def seen (c : Dev nD) (n : ℕ) : Finset ℕ := Finset.Ico (half c) (half c + 4096 * n)

/-- The rows of chunk `n`. -/
def fresh (c : Dev nD) (n : ℕ) : Finset ℕ := Finset.Ico (half c + 4096 * n) (half c + 4096 * (n + 1))

theorem seen_succ (c : Dev nD) (n : ℕ) : seen c (n + 1) = seen c n ∪ fresh c n :=
  (Finset.Ico_union_Ico_eq_Ico (by omega) (by omega)).symm

theorem seen_disj (c : Dev nD) (n : ℕ) : Disjoint (seen c n) (fresh c n) := Finset.Ico_disjoint_Ico_consecutive _ _ _

theorem sum_fresh (c : Dev nD) (n : ℕ) (f : ℕ → EReal) : ∑ r : Fin 4096, f (half c + 4096 * n + r.val) = ∑ i ∈ fresh c n, f i := by
  rw [fresh, Finset.sum_Ico_eq_sum_range, show half c + 4096 * (n + 1) - (half c + 4096 * n) = 4096 by omega,
    Finset.sum_range (fun k => f (half c + 4096 * n + k))]

theorem sup_fresh (c : Dev nD) (n : ℕ) (f : ℕ → EReal) : (Finset.univ.sup fun r : Fin 4096 => f (half c + 4096 * n + r.val)) = (fresh c n).sup f := by
  refine le_antisymm (Finset.sup_le fun r _ => Finset.le_sup (f := f) ?_) (Finset.sup_le fun i hi => ?_)
  · have := r.isLt
    rw [fresh, Finset.mem_Ico]; omega
  · rw [fresh, Finset.mem_Ico] at hi
    have h := Finset.le_sup (f := fun r : Fin 4096 => f (half c + 4096 * n + r.val)) (Finset.mem_univ ⟨i - (half c + 4096 * n), by omega⟩)
    simp only at h
    rwa [show half c + 4096 * n + (i - (half c + 4096 * n)) = i by omega] at h

/-! ## What the state is -/

/-- The state `s` is the softmax of the rows `S`. -/
structure IsSoft (b : Fin 4) (S : Finset ℕ) (s : St Ideal) : Prop where
  max : ∀ j : Fin 256, s.1 (ix2 0 j) = S.sup (escore Q K b j)
  den : ∀ j : Fin 256, s.2.1 (ix2 0 j) = den (escore Q K b j) S (S.sup (escore Q K b j))
  num : ∀ (j : Fin 256) (d : Fin 128), s.2.2 (ix2 j d) = num (escore Q K b j) (val V b d) S (S.sup (escore Q K b j))

/-- One chunk: if its scores and values are those of the rows `T`, the state after it is that of `S ∪ T`. -/
theorem soft_step (hQ : ∀ i, ∃ x : ℝ, Q i = x) (hK : ∀ i, ∃ x : ℝ, K i = x) {b : Fin 4} {c : Dev nD} {n : ℕ} {s : St Ideal}
    (h : IsSoft Q K V b (seen c n) s) {q : Vec Ideal S128x256 .bf16} {k v : Vec Ideal S1x4096x128 .f32}
    (hs : ∀ r j, k0_pay30 (F := Ideal) indK biasK k q (ix2 r j) = escore Q K b j (half c + 4096 * n + r.val))
    (hv : ∀ r d, v (ix3 0 r d) = val V b d (half c + 4096 * n + r.val)) :
    IsSoft Q K V b (seen c (n + 1)) (stepSt q k v s) := by
  have hmax : ∀ j : Fin 256, k0_pay31 (F := Ideal) indK biasK s.1 k q (ix2 0 j) = (seen c (n + 1)).sup (escore Q K b j) := fun j => by
    rw [max_apply, h.max j, seen_succ, Finset.sup_union, ← sup_fresh c n]
    simp only [hs]
  have hle : ∀ j, (seen c n).sup (escore Q K b j) ≤ (seen c (n + 1)).sup (escore Q K b j) := fun j =>
    Finset.sup_mono (by rw [seen_succ]; exact Finset.subset_union_left)
  have htop : ∀ j, (seen c (n + 1)).sup (escore Q K b j) < ⊤ := fun j => sup_lt_top _ fun i _ => escore_lt Q K hQ hK b j i
  refine ⟨hmax, fun j => ?_, fun j d => ?_⟩
  · show k0_pay34 (F := Ideal) indK biasK s.1 s.2.1 k q (ix2 0 j) = _
    rw [den_apply, hmax j, h.max j, h.den j]
    simp only [hs]
    rw [sum_fresh c n fun i => Ideal.exp (escore Q K b j i - (seen c (n + 1)).sup (escore Q K b j))]
    refine (congrArg (· + _) (den_raise _ _ (fun i hi => Finset.le_sup hi) (hle j) (htop j))).trans ?_
    conv_rhs => rw [seen_succ, den_union _ (seen_disj c n), ← seen_succ]
    rfl
  · show k0_pay35 (F := Ideal) indK biasK s.1 s.2.2 k q v (ix2 j d) = _
    rw [num_apply, hmax j, h.max j, h.num j d]
    simp only [hs, hv]
    rw [sum_fresh c n fun i => Ideal.exp (escore Q K b j i - (seen c (n + 1)).sup (escore Q K b j)) * val V b d i]
    refine (congrArg (· + _) (num_raise _ _ _ (fun i hi => Finset.le_sup hi) (hle j) (htop j))).trans ?_
    conv_rhs => rw [seen_succ, num_union _ _ (seen_disj c n), ← seen_succ]
    rfl

/-- Before the first chunk: no rows. -/
theorem soft_init (b : Fin 4) (c : Dev nD) : IsSoft Q K V b (seen c 0) (k0_pay14, k0_pay15, k0_pay16) := by
  have hS : seen c 0 = ∅ := by simp [seen]
  rw [hS]
  refine ⟨fun j => ?_, fun j => ?_, fun j d => ?_⟩
  · rfl
  · show k0_pay15 (F := Ideal) (ix2 0 j) = _
    simp only [k0_pay15, pointwise]; simp [den]
  · show k0_pay16 (F := Ideal) (ix2 j d) = _
    simp only [k0_pay16, pointwise]; simp [num]

/-! ## The device's state -/

section
variable (m : (ℓ : Loc nD τ sig) → Buf (Elt Ideal) ℓ)

/-- The devices hold their parts of the whole arrays. -/
structure Holds (c : Dev nD) : Prop where
  q : m ((c : Thread nD τ).loc main_arg0) = Q
  k : ∀ (b : Fin 4) (r : Fin 32768) (d : Fin 128), m ((c : Thread nD τ).loc main_arg1) (ix3 b r d) = K (ix3 b (rowOf (half c + r.val)) d)
  v : ∀ (b : Fin 4) (r : Fin 32768) (d : Fin 128), m ((c : Thread nD τ).loc main_arg2) (ix3 b r d) = V (ix3 b (rowOf (half c + r.val)) d)

variable {Q K V m}

theorem half_mod8 (c : Dev nD) (n r : ℕ) : (half c + 4096 * n + r) % 8 = r % 8 := by unfold half; omega

theorem scores_eq {c : Dev nD} (h : Holds Q K V m c) (hQ : ∀ i, ∃ x : ℝ, Q i = x) (hK : ∀ i, ∃ x : ℝ, K i = x) (n : Fin 8) (r : Fin 4096) (j : Fin 256) :
    k0_pay30 (F := Ideal) indK biasK (kBlk m c n) (qcat m c) (ix2 r j) = escore Q K (brow c) j (half c + 4096 * n.val + r.val) := by
  rw [scores_apply, ← score_kernel Q K hQ hK, half_mod8]
  refine congrArg₂ (· + ·) (Finset.sum_congr rfl fun d _ => congrArg₂ (· * ·) ?_ ?_) rfl
  · rw [kBlk_at, h.k, ← Nat.add_assoc]
  · refine (q_apply (qHead m c (headOf j)) d (queryOf j)).trans ?_
    rw [qHead_at, h.q]
    rfl

theorem stAt_soft {c : Dev nD} (h : Holds Q K V m c) (hQ : ∀ i, ∃ x : ℝ, Q i = x) (hK : ∀ i, ∃ x : ℝ, K i = x) :
    ∀ (n : ℕ) (hn : n ≤ 8), IsSoft Q K V (brow c) (seen c n) (stAt m c n hn)
  | 0, _ => soft_init Q K V _ c
  | n + 1, hn => soft_step Q K V hQ hK (stAt_soft h hQ hK n (by omega)) (scores_eq h hQ hK ⟨n, hn⟩) fun r d => by
      rw [vBlk_at, h.v, ← Nat.add_assoc]; rfl
end

end Cert.Decode
end
-- ==== Proof.Merge.lean ====
module

public import proofs.«01_k».proof.Proof.State

/-!
# The merged row is the attention of the whole row

The two devices of a `y` pair hold the two halves of the key rows of one batch row, in either order. Rescaled to the larger
maximum and added, they are the softmax of all 65536 rows, of which a column's head keeps 8192.
-/

@[expose] public section
noncomputable section
namespace Cert.Decode
open Cert.KernelIdeal Cert.KernelIdeal.Gen
open Idealize.ShloMosaic Idealize.ShloMosaic.TcCoe

variable (Q : QArr) (K V : KArr)

/-- The score of key `k` under the column's head. -/
def kscore (b : Fin 4) (j : Fin 256) (k : ℕ) : EReal := score Q K b j (8 * k + (headOf j).val)

/-- Softmax attention of batch row `b` at column `j`, plainly: each weight is divided by the sum of the weights. -/
def attn (b : Fin 4) (j : Fin 256) (d : Fin 128) : EReal :=
  ∑ k ∈ Finset.range 8192,
    Ideal.div (wt (kscore Q K b j k) ((Finset.range 8192).sup (kscore Q K b j)))
        (den (kscore Q K b j) (Finset.range 8192) ((Finset.range 8192).sup (kscore Q K b j)))
      * val V b d (8 * k + (headOf j).val)

theorem wt_bot (M : EReal) : wt ⊥ M = 0 := by
  unfold wt
  rw [sub_eq_add_neg, EReal.bot_add]; rfl

theorem escore_head (b : Fin 4) (j : Fin 256) (k : ℕ) : escore Q K b j (8 * k + (headOf j).val) = kscore Q K b j k := by
  have := (headOf j).isLt
  rw [escore, if_pos (by omega)]; rfl

theorem escore_other (b : Fin 4) (j : Fin 256) (i : ℕ) (h : i % 8 ≠ (headOf j).val) : escore Q K b j i = ⊥ := if_neg h

theorem sup_all (b : Fin 4) (j : Fin 256) : (Finset.range 65536).sup (escore Q K b j) = (Finset.range 8192).sup (kscore Q K b j) := by
  refine (masked_sup 8192 (headOf j).val (headOf j).isLt _ (escore_other Q K b j)).trans ?_
  simp only [escore_head]

theorem num_all (b : Fin 4) (j : Fin 256) (v : ℕ → EReal) (M : EReal) :
    num (escore Q K b j) v (Finset.range 65536) M = num (kscore Q K b j) (fun k => v (8 * k + (headOf j).val)) (Finset.range 8192) M := by
  refine (masked_sum 8192 (headOf j).val (headOf j).isLt _ fun i hi => ?_).trans ?_
  · rw [escore_other Q K b j i hi, wt_bot, zero_mul]
  · simp only [escore_head]; rfl

theorem den_all (b : Fin 4) (j : Fin 256) (M : EReal) : den (escore Q K b j) (Finset.range 65536) M = den (kscore Q K b j) (Finset.range 8192) M := by
  rw [den_eq, den_eq, num_all]

/-- Dividing the whole row's numerator by its denominator. -/
theorem div_all (hQ : ∀ i, ∃ x : ℝ, Q i = x) (hK : ∀ i, ∃ x : ℝ, K i = x) (b : Fin 4) (j : Fin 256) (d : Fin 128) :
    Ideal.div (num (escore Q K b j) (val V b d) (Finset.range 65536) ((Finset.range 65536).sup (escore Q K b j)))
        (den (escore Q K b j) (Finset.range 65536) ((Finset.range 65536).sup (escore Q K b j)))
      = attn Q K V b j d := by
  rw [sup_all, num_all, den_all, attn]
  obtain ⟨r, hr, hd⟩ := den_pos (kscore Q K b j) (S := Finset.range 8192) ⟨0, by simp⟩ fun k _ => score_real Q K hQ hK b j _
  rw [hd, num_div _ _ _ _ hr]

/-! ## The two halves -/

theorem brow_pt : ∀ c : Dev nD, brow (pt 0 c) = brow c := by decide

theorem halves : ∀ c : Dev nD, (half c = 0 ∧ half (pt 0 c) = 32768) ∨ (half c = 32768 ∧ half (pt 0 c) = 0) := by decide

theorem seen_all (c : Dev nD) : seen c 8 ∪ seen (pt 0 c) 8 = Finset.range 65536 := by
  ext i
  simp only [seen, Finset.mem_union, Finset.mem_Ico, Finset.mem_range]
  rcases halves c with h | h <;> omega

theorem seen_apart (c : Dev nD) : Disjoint (seen c 8) (seen (pt 0 c) 8) := by
  refine Finset.disjoint_left.2 fun i hi hi' => ?_
  simp only [seen, Finset.mem_Ico] at hi hi'
  rcases halves c with h | h <;> omega

variable {Q K V} {m : (ℓ : Loc nD τ sig) → Buf (Elt Ideal) ℓ}

theorem mCol_at (c : Dev nD) (j : Fin 256) : mCol m c (ix2 j 0) = (fin8 m c).1 (ix2 0 j) := by
  unfold mCol
  generalize fin8 m c = s
  simp only [pointwise]

theorem lCol_at (c : Dev nD) (j : Fin 256) : lCol m c (ix2 j 0) = (fin8 m c).2.1 (ix2 0 j) := by
  unfold lCol
  generalize fin8 m c = s
  simp only [pointwise]

theorem oSend_at (c : Dev nD) (j : Fin 256) (d : Fin 128) : oSend m c (ix2 j d) = (fin8 m c).2.2 (ix2 j d) := rfl

/-- The merged row. -/
theorem merged_at (hh : ∀ c, Holds Q K V m c) (hQ : ∀ i, ∃ x : ℝ, Q i = x) (hK : ∀ i, ∃ x : ℝ, K i = x) (c : Dev nD) (j : Fin 256) (d : Fin 128) :
    merged m c (ix2 j d) = attn Q K V (brow c) j d := by
  have hA : IsSoft Q K V (brow c) (seen c 8) (fin8 m c) := stAt_soft (hh c) hQ hK 8 le_rfl
  have hB : IsSoft Q K V (brow c) (seen (pt 0 c) 8) (fin8 m (pt 0 c)) := brow_pt c ▸ stAt_soft (hh (pt 0 c)) hQ hK 8 le_rfl
  rw [← div_all Q K V hQ hK, ← seen_all c, merged, merge_apply, mCol_at, lCol_at, oSend_at, hA.max, hA.den, hA.num, hB.max, hB.den, hB.num,
    Finset.sup_union, num_union _ _ (seen_apart c), den_union _ (seen_apart c)]
  have htop : (seen c 8).sup (escore Q K (brow c) j) ⊔ (seen (pt 0 c) 8).sup (escore Q K (brow c) j) < ⊤ :=
    sup_lt_iff.2 ⟨sup_lt_top _ fun i _ => escore_lt Q K hQ hK _ j i, sup_lt_top _ fun i _ => escore_lt Q K hQ hK _ j i⟩
  have hle : ∀ {S : Finset ℕ}, ∀ i ∈ S, escore Q K (brow c) j i ≤ S.sup (escore Q K (brow c) j) := fun i hi => Finset.le_sup hi
  rw [← num_raise _ _ (seen c 8) hle le_sup_left htop, ← num_raise _ _ (seen (pt 0 c) 8) hle le_sup_right htop,
    ← den_raise _ (seen c 8) hle le_sup_left htop, ← den_raise _ (seen (pt 0 c) 8) hle le_sup_right htop]
  refine congrArg₂ Ideal.div (congrArg₂ (· + ·) ?_ ?_) (congrArg₂ (· + ·) ?_ ?_) <;> exact mul_comm _ _

theorem brow_devAt : ∀ (c : Dev nD) (b : Fin 4), brow (devAt c b) = b := by decide

/-- The kernel's result. -/
theorem outAt_at (hh : ∀ c, Holds Q K V m c) (hQ : ∀ i, ∃ x : ℝ, Q i = x) (hK : ∀ i, ∃ x : ℝ, K i = x) (c : Dev nD) (b : Fin 4) (j : Fin 256) (d : Fin 128) :
    outAt m c (ix3 b j d) = attn Q K V b j d := by
  refine (?_ : _ = merged m (devAt c b) (ix2 j d)).trans ?_
  · rfl
  · rw [merged_at hh hQ hK, brow_devAt]

end Cert.Decode
end
-- ==== Proof.RefValue.lean ====
module

public import proofs.«01_k».proof.Proof.Merge
public import proofs.«01_k».proof.Proof.Gen.ReferenceIdeal
public import Idealize.ShloMosaic.Lib.Pointwise

/-!
# The reference at an index
-/

@[expose] public section
noncomputable section
namespace Cert.Decode
open Cert.ReferenceIdeal Cert.ReferenceIdeal.Gen
open Idealize.ShloMosaic

variable (Q : FVec Ideal S4x32x8x128 .f32) (K V : FVec Ideal S4x65536x128 .f32)

/-- The reference's scaled scores. -/
def refS : FVec Ideal S4x8x32x8192 .f32 :=
  mulf (Host.dotGeneral dot_S4x32x8x128_S4x8192x8x128_S4x8x32x8192_3_3_1_1_02_02 none Q (shapeCast S4x8192x8x128 K shapeCasts_S4x65536x128_S4x8192x8x128)) (broadcastInDim S4x8x32x8192 ![] bcast_S_S4x8x32x8192 (Host.divf (constant S_ .f32 0x3F800000#32) (Host.sqrt (constant S_ .f32 0x43000000#32))))

/-- The reference's weights, of its scores. -/
def refP (S : FVec Ideal S4x8x32x8192 .f32) : FVec Ideal S4x8x32x8192 .f32 :=
  Host.exp (subf S (broadcastInDim S4x8x32x8192 ![0, 1, 2, 3] bcast_S4x8x32x1_S4x8x32x8192_0_1_2_3 (broadcastInDim S4x8x32x1 ![0, 1, 2] bcast_S4x8x32_S4x8x32x1_0_1_2
    (Host.reduce FloatOps.maximumf S (constant S_ .f32 0xFF800000#32) reducesTo_S4x8x32x8192_S4x8x32_d3 h_S_))))

/-- The weights divided by their sum. -/
def refN (P : FVec Ideal S4x8x32x8192 .f32) : FVec Ideal S4x8x32x8192 .f32 :=
  Host.divf P (broadcastInDim S4x8x32x8192 ![0, 1, 2, 3] bcast_S4x8x32x1_S4x8x32x8192_0_1_2_3 (broadcastInDim S4x8x32x1 ![0, 1, 2] bcast_S4x8x32_S4x8x32x1_0_1_2
    (Host.reduceAdd P (constant S_ .f32 0x00000000#32) reducesTo_S4x8x32x8192_S4x8x32_d3 h_S_)))

/-- The values weighted and summed. -/
def refO (N : FVec Ideal S4x8x32x8192 .f32) : FVec Ideal S4x256x128 .f32 :=
  shapeCast S4x256x128 (Host.dotGeneral dot_S4x8x32x8192_S4x8192x8x128_S4x8x32x128_3_1_2_3_01_02 none N (shapeCast S4x8192x8x128 V shapeCasts_S4x65536x128_S4x8192x8x128)) shapeCasts_S4x8x32x128_S4x256x128

theorem row_val (k : Fin 8192) (h : Fin 8) : k.val * 8 + h.val = (rowOf (8 * k.val + h.val)).val := by
  show _ = (8 * k.val + h.val) % 65536
  omega

/-- The reference's factor, one divided by the root of 128. -/
theorem root_eq : Ideal.div 1 (Ideal.sqrt (Ideal.ofBits .f32 0x43000000#32)) = scl := by
  have h2 : Ideal.ofBits .f32 0x43000000#32 = ((128 : ℝ) : EReal) := by
    simp [Ideal.ofBits, Ideal.ieee]
    rw [← EReal.coe_mul]
    norm_num
  have h3 : Real.sqrt 128 ≠ 0 := (Real.sqrt_pos.2 (by norm_num)).ne'
  rw [h2, Ideal.sqrt_coe, if_neg (by norm_num), Ideal.div_coe h3, one_mul, one_div, scl]

theorem refS_at (b : Fin 4) (h : Fin 8) (q : Fin 32) (k : Fin 8192) :
    refS Q K (ix4 b h q k) = (∑ d : Fin 128, Q (ix4 b q h d) * K (ix3 b (rowOf (8 * k.val + h.val)) d)) * scl := by
  unfold refS
  simp only [pointwise]
  rw [zero_add, root_eq]
  refine congrArg (· * scl) (Finset.sum_congr rfl fun d _ => congrArg (fun i => Q (ix4 b q h d) * K (ix3 b i d)) (Fin.ext ?_))
  exact row_val k h

theorem refP_at (S : FVec Ideal S4x8x32x8192 .f32) (b : Fin 4) (h : Fin 8) (q : Fin 32) (k : Fin 8192) :
    refP S (ix4 b h q k) = wt (S (ix4 b h q k)) (Finset.univ.sup fun k' : Fin 8192 => S (ix4 b h q k')) := by
  unfold refP
  simp only [pointwise]
  rfl

theorem refN_at (P : FVec Ideal S4x8x32x8192 .f32) (b : Fin 4) (h : Fin 8) (q : Fin 32) (k : Fin 8192) :
    refN P (ix4 b h q k) = Ideal.div (P (ix4 b h q k)) (∑ k' : Fin 8192, P (ix4 b h q k')) := by
  unfold refN
  simp only [pointwise]
  rw [zero_add]
  rfl

theorem refO_at (N : FVec Ideal S4x8x32x8192 .f32) (b : Fin 4) (j : Fin 256) (d : Fin 128) :
    refO V N (ix3 b j d) = ∑ k : Fin 8192, N (ix4 b (headOf j) (queryOf j) k) * V (ix3 b (rowOf (8 * k.val + (headOf j).val)) d) := by
  unfold refO
  simp only [pointwise]
  rw [zero_add]
  refine Finset.sum_congr rfl fun k _ => congrArg (fun i => N (ix4 b (headOf j) (queryOf j) k) * V (ix3 b i d)) (Fin.ext ?_)
  exact row_val k (headOf j)

/-- The reference's result. -/
def refOut : FVec Ideal S4x256x128 .f32 := refO V (refN (refP (refS Q K)))

theorem sup_keys (f : ℕ → EReal) (n : ℕ) : (Finset.univ.sup fun k : Fin n => f k.val) = (Finset.range n).sup f := by
  refine le_antisymm (Finset.sup_le fun k _ => Finset.le_sup (f := f) (Finset.mem_range.2 k.isLt)) (Finset.sup_le fun k hk => ?_)
  exact Finset.le_sup (f := fun k : Fin n => f k.val) (Finset.mem_univ ⟨k, Finset.mem_range.1 hk⟩)

theorem sum_keys (f : ℕ → EReal) (n : ℕ) : ∑ k : Fin n, f k.val = ∑ k ∈ Finset.range n, f k := (Finset.sum_range f).symm

theorem refN_score (b : Fin 4) (j : Fin 256) (k : Fin 8192) :
    refN (refP (refS Q K)) (ix4 b (headOf j) (queryOf j) k)
      = Ideal.div (wt (kscore Q K b j k.val) ((Finset.range 8192).sup (kscore Q K b j)))
          (den (kscore Q K b j) (Finset.range 8192) ((Finset.range 8192).sup (kscore Q K b j))) := by
  have hS : ∀ k : Fin 8192, refS Q K (ix4 b (headOf j) (queryOf j) k) = kscore Q K b j k.val := fun k => refS_at Q K b _ _ k
  have hP : ∀ k : Fin 8192, refP (refS Q K) (ix4 b (headOf j) (queryOf j) k) = wt (kscore Q K b j k.val) ((Finset.range 8192).sup (kscore Q K b j)) := fun k => by
    rw [refP_at, ← sup_keys]
    simp only [hS]
  rw [refN_at, den, ← sum_keys]
  simp only [hP]

theorem refOut_at (b : Fin 4) (j : Fin 256) (d : Fin 128) : refOut Q K V (ix3 b j d) = attn Q K V b j d := by
  rw [refOut, refO_at, attn, ← sum_keys]
  refine Finset.sum_congr rfl fun k _ => ?_
  rw [refN_score]
  rfl

end Cert.Decode
end
-- ==== Proof.Algebraic.lean ====
module

public import proofs.«01_k».proof.Defs
public import proofs.«01_k».proof.Proof.Run
public import proofs.«01_k».proof.Proof.RefValue
public import proofs.«01_k».proof.Proof.Gen.ReferenceIdeal.Run

/-!
# The kernel computes what the reference computes
-/

@[expose] public section
noncomputable section
namespace Cert.Decode
open Cert.KernelIdeal Cert.KernelIdeal.Gen
open Idealize.ShloMosaic Idealize.ShloMosaic.TcCoe Idealize.SL.Sem

/-- The side conditions of the precondition, as printed over each program's arguments. -/
theorem facts_pre : Cert.Pre_finite_scores_KernelIdeal.Facts := ⟨by decide, by decide⟩
theorem facts_pre_ref : Cert.Pre_finite_scores_ReferenceIdeal.Facts := ⟨by decide, by decide⟩

/-- An extended real whose absolute value compares below infinity is a real. -/
theorem real_of_abs (x : EReal) (h : FloatOps.cmpf (F := Ideal) (φ := .f32) .olt (FloatOps.absf (F := Ideal) (φ := .f32) x) (Ideal.ofBits .f32 0x7F800000#32) = 1#1) : ∃ r : ℝ, x = r := by
  have ht : Ideal.ofBits .f32 0x7F800000#32 = ⊤ := rfl
  rw [ht] at h
  induction x with
  | coe x => exact ⟨x, rfl⟩
  | top =>
    refine absurd h ?_
    show ¬ Ideal.cmp .olt (⊤ : EReal) ⊤ = 1#1
    simp [Ideal.cmp]
  | bot =>
    refine absurd h ?_
    show ¬ Ideal.cmp .olt (⊤ : EReal) ⊤ = 1#1
    simp [Ideal.cmp]

attribute [local instance] facts_pre

variable {m : (ℓ : Loc nD τ sig) → Buf (Elt Ideal) ℓ}

theorem pre_q (h : Cert.Pre_KernelIdeal_finite_scores_KernelIdeal m) (c : Dev nD) (i : (⟨4, ![4, 32, 8, 128]⟩ : Shape).Idx) : ∃ r : ℝ, m ((c : Thread nD τ).loc main_arg0) i = (r : EReal) :=
  real_of_abs _ (congrFun (h c).1 i)

theorem pre_k (h : Cert.Pre_KernelIdeal_finite_scores_KernelIdeal m) (c : Dev nD) (i : (⟨3, ![4, 32768, 128]⟩ : Shape).Idx) : ∃ r : ℝ, m ((c : Thread nD τ).loc main_arg1) i = (r : EReal) :=
  real_of_abs _ (congrFun (h c).2 i)

/-- The keys of all devices are all the keys. -/
theorem keys_real {Q : QArr} {K V : KArr} (hh : ∀ c, Holds Q K V m c) (h : Cert.Pre_KernelIdeal_finite_scores_KernelIdeal m) (i : (⟨3, ![4, 65536, 128]⟩ : Shape).Idx) : ∃ r : ℝ, K i = (r : EReal) := by
  have key : ∀ (c : Dev nD) (r : Fin 32768), half c + r.val = (i 1).val → ∃ x : ℝ, K i = (x : EReal) := fun c r hr => by
    obtain ⟨x, hx⟩ := pre_k h c (ix3 (n0 := 4) (n1 := 32768) (n2 := 128) (i 0) r (i 2))
    refine ⟨x, ?_⟩
    rw [← hx]
    refine Eq.trans ?_ ((hh c).k (i 0) r (i 2)).symm
    refine congrArg K (funext fun a => ?_)
    have hi : (i 1).val < 65536 := (i 1).isLt
    fin_cases a
    · rfl
    · refine Fin.ext ?_
      show (i 1).val = (half c + r.val) % 65536
      rw [hr, Nat.mod_eq_of_lt hi]
    · rfl
  have hi : (i 1).val < 65536 := (i 1).isLt
  by_cases hlt : (i 1).val < 32768
  · exact key 0 ⟨(i 1).val, hlt⟩ (by show 0 + (i 1).val = _; omega)
  · exact key 2 ⟨(i 1).val - 32768, by omega⟩ (by show 32768 + ((i 1).val - 32768) = _; omega)

/-- Each device's result is the reference's. -/
theorem out_eq {Q : QArr} {K V : KArr} (hh : ∀ c, Holds Q K V m c) (h : Cert.Pre_KernelIdeal_finite_scores_KernelIdeal m) (c : Dev nD) : outAt m c = refOut Q K V := by
  have hQ : ∀ i, ∃ x : ℝ, Q i = x := fun i => (hh 0).q ▸ pre_q h 0 i
  funext i
  have hi : i = ix3 (n0 := 4) (n1 := 256) (n2 := 128) (i 0) (i 1) (i 2) := by
    funext a; fin_cases a <;> rfl
  rw [hi]
  exact (outAt_at hh hQ (keys_real hh h) c (i 0) (i 1) (i 2)).trans (refOut_at Q K V (i 0) (i 1) (i 2)).symm

theorem algebraic : Cert.algebraic_KernelIdeal_ReferenceIdeal_pre_finite_scores_KernelIdeal
    (hKernelIdeal := Cert.KernelIdeal.Gen.facts) (hReferenceIdeal := Cert.ReferenceIdeal.Gen.facts) (hPre_finite_scores_KernelIdeal := facts_pre) := by
  intro m g m' g' hpre hargs
  let L (r : Ref Cert.ReferenceIdeal.sig .tc) := m' (((0 : Dev Cert.ReferenceIdeal.nD).tc : Thread Cert.ReferenceIdeal.nD Cert.ReferenceIdeal.τ).loc r)
  have hh : ∀ c, Holds (L Cert.ReferenceIdeal.main_arg0) (L Cert.ReferenceIdeal.main_arg1) (L Cert.ReferenceIdeal.main_arg2) m c := fun c =>
    ⟨(hargs c).1, fun b r d => (congrFun (hargs c).2.1 (ix3 b r d)).trans (block_at c _ b r d),
      fun b r d => (congrFun (hargs c).2.2 (ix3 b r d)).trans (block_at c _ b r d)⟩
  refine ⟨refOut (L Cert.ReferenceIdeal.main_arg0) (L Cert.ReferenceIdeal.main_arg1) (L Cert.ReferenceIdeal.main_arg2), ?_, ?_⟩
  · refine (θ_run _ _ _).mono (fun r h c => ?_) (run_main (F := Ideal) m g)
    obtain ⟨h1, h0⟩ := h.1 c
    exact ⟨h1.trans (out_eq hh hpre c), h0⟩
  · exact (θ_run _ _ _).mono (fun r h => h 0) (Cert.ReferenceIdeal.Value.run (F := Ideal) m' g')

end Cert.Decode
end
-- ==== Proof.lean ====
/-
  The claims, put together: the frames of the kernel, of its idealization and of the reference, the named constants, and the
  equation of the kernel's result and the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Algebraic

@[expose] public section

noncomputable section

namespace Cert.Proof

theorem claim : Cert.Claim :=
  ⟨Cert.Kernel.Gen.facts, Cert.KernelIdeal.Gen.facts, Cert.ReferenceIdeal.Gen.facts, Cert.Decode.facts_pre, Cert.Decode.facts_pre_ref,
    Cert.Decode.frame_kernel,
    Cert.Decode.frame_ideal, fun m g _ => Cert.Decode.frame_ideal m g trivial,
    Cert.Decode.frame_reference, fun m g _ => Cert.Decode.frame_reference m g trivial,
    Cert.Decode.consts_named, Cert.Decode.algebraic⟩

end Cert.Proof

end
